-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S4x4096x32 : Shape := ⟨3, ![4, 4096, 32]⟩
abbrev S1x1x32 : Shape := ⟨3, ![1, 1, 32]⟩
abbrev S32x96 : Shape := ⟨2, ![32, 96]⟩
abbrev S2x96 : Shape := ⟨2, ![2, 96]⟩
abbrev S32x32 : Shape := ⟨2, ![32, 32]⟩
abbrev S32 : Shape := ⟨1, ![32]⟩
abbrev S1x32 : Shape := ⟨2, ![1, 32]⟩
abbrev S4x1x512x4096 : Shape := ⟨4, ![4, 1, 512, 4096]⟩
abbrev S4 : Shape := ⟨1, ![4]⟩
abbrev S2x1x4096x32 : Shape := ⟨4, ![2, 1, 4096, 32]⟩
abbrev S2 : Shape := ⟨1, ![2]⟩
abbrev S2x1x512x32 : Shape := ⟨4, ![2, 1, 512, 32]⟩
abbrev S1 : Shape := ⟨1, ![1]⟩
abbrev S_ : Shape := ⟨0, ![]⟩
abbrev S1x1x512x4096 : Shape := ⟨4, ![1, 1, 512, 4096]⟩
abbrev S1x512x4096 : Shape := ⟨3, ![1, 512, 4096]⟩
abbrev S1x1x4096x32 : Shape := ⟨4, ![1, 1, 4096, 32]⟩
abbrev S1x4096x32 : Shape := ⟨3, ![1, 4096, 32]⟩
abbrev S1x1x512x32 : Shape := ⟨4, ![1, 1, 512, 32]⟩
abbrev S1x512x32 : Shape := ⟨3, ![1, 512, 32]⟩
abbrev S512x4096 : Shape := ⟨2, ![512, 4096]⟩
abbrev S4096x32 : Shape := ⟨2, ![4096, 32]⟩
abbrev S512x32 : Shape := ⟨2, ![512, 32]⟩
abbrev S512x96 : Shape := ⟨2, ![512, 96]⟩
abbrev S1x96 : Shape := ⟨2, ![1, 96]⟩
abbrev S96 : Shape := ⟨1, ![96]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4x4096x32, .f32⟩
  | .hbm, ⟨2, _⟩ => ⟨S1x1x32, .f32⟩
  | .hbm, ⟨3, _⟩ => ⟨S32x96, .f32⟩
  | .hbm, ⟨4, _⟩ => ⟨S32x96, .f32⟩
  | .hbm, ⟨5, _⟩ => ⟨S2x96, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S4x4096x32, .f32⟩
  | .local _ .vmem, ⟨0, _⟩ => ⟨S1x32, .f32⟩
  | .local _ .vmem, ⟨1, _⟩ => ⟨S32x96, .f32⟩
  | .local _ .vmem, ⟨2, _⟩ => ⟨S32x96, .f32⟩
  | .local _ .vmem, ⟨3, _⟩ => ⟨S2x96, .f32⟩
  | .local _ .vmem, ⟨4, _⟩ => ⟨S32x32, .f32⟩
  | .local _ .vmem, ⟨5, _⟩ => ⟨S1x32, .f32⟩
  | .local _ .vmem, ⟨6, _⟩ => ⟨S4x1x512x4096, .f32⟩
  | .local _ .vmem, ⟨7, _⟩ => ⟨S2x1x4096x32, .f32⟩
  | .local _ .vmem, ⟨8, _⟩ => ⟨S2x1x512x32, .f32⟩
  | .local _ .vmem, ⟨9, _⟩ => ⟨S2x1x512x32, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scoped0 : Ref sig .tc := ⟨.vmem, 6, rfl⟩
abbrev cc0_scoped2 : Ref sig .tc := ⟨.vmem, 7, rfl⟩
abbrev cc0_scoped4 : Ref sig .tc := ⟨.vmem, 8, rfl⟩
abbrev cc0_scoped6 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 : Fin 1 → Nat :=
  let c0_i32_48_r0 : BitVec 32 := 0#32
  let c4_i32_49_r0 : BitVec 32 := 4#32
  let v52_r0 : BitVec 32 := Scalar.remui c0_i32_48_r0 c4_i32_49_r0
  ![v52_r0.toNat]
def k0_off2 : Fin 4 → Nat :=
  let c0_i32_48_r0 : BitVec 32 := 0#32
  let c4_i32_49_r0 : BitVec 32 := 4#32
  let v52_r0 : BitVec 32 := Scalar.remui c0_i32_48_r0 c4_i32_49_r0
  let c0_i32_51_r0 : BitVec 32 := 0#32
  let c0_i32_52_r0 : BitVec 32 := 0#32
  let c0_i32_53_r0 : BitVec 32 := 0#32
  ![v52_r0.toNat, 0, 0, 0]
def k0_off3 : Fin 3 → Nat :=
  let c1_i32_50_r0 : BitVec 32 := 1#32
  let c0_i32_44_r0 : BitVec 32 := 0#32
  let c0_i32_45_r0 : BitVec 32 := 0#32
  let v50_r0 : BitVec 32 := Scalar.addi c0_i32_44_r0 c0_i32_45_r0
  let v53_r0 : BitVec 32 := Scalar.muli c1_i32_50_r0 v50_r0
  let c512_i32_r0 : BitVec 32 := 512#32
  let c0_i32_46_r0 : BitVec 32 := 0#32
  let c0_i32_47_r0 : BitVec 32 := 0#32
  let v51_r0 : BitVec 32 := Scalar.addi c0_i32_46_r0 c0_i32_47_r0
  let v54_r0 : BitVec 32 := Scalar.muli c512_i32_r0 v51_r0
  let c0_i32_54_r0 : BitVec 32 := 0#32
  ![v53_r0.toNat, v54_r0.toNat, 0]
def k0_off4 : Fin 1 → Nat :=
  let c0_i32_57_r0 : BitVec 32 := 0#32
  let c2_i32_r0 : BitVec 32 := 2#32
  let v61_r0 : BitVec 32 := Scalar.remui c0_i32_57_r0 c2_i32_r0
  ![v61_r0.toNat]
def k0_off5 : Fin 4 → Nat :=
  let c0_i32_57_r0 : BitVec 32 := 0#32
  let c2_i32_r0 : BitVec 32 := 2#32
  let v61_r0 : BitVec 32 := Scalar.remui c0_i32_57_r0 c2_i32_r0
  let c0_i32_58_r0 : BitVec 32 := 0#32
  let c0_i32_59_r0 : BitVec 32 := 0#32
  let c0_i32_60_r0 : BitVec 32 := 0#32
  ![v61_r0.toNat, 0, 0, 0]
def k0_off6 : Fin 4 → Nat :=
  let c0_i32_66_r0 : BitVec 32 := 0#32
  let c2_i32_67_r0 : BitVec 32 := 2#32
  let v68_r0 : BitVec 32 := Scalar.remui c0_i32_66_r0 c2_i32_67_r0
  let c0_i32_68_r0 : BitVec 32 := 0#32
  let c0_i32_69_r0 : BitVec 32 := 0#32
  let c0_i32_70_r0 : BitVec 32 := 0#32
  ![v68_r0.toNat, 0, 0, 0]
def k0_off7 (arg13_r0 : BitVec 32) : Fin 1 → Nat :=
  let c4_i32_184_r0 : BitVec 32 := 4#32
  let v187_r0 : BitVec 32 := Scalar.remui arg13_r0 c4_i32_184_r0
  ![v187_r0.toNat]
def k0_cond1 (arg9_r0 : BitVec 32) (arg10_r0 : BitVec 32) (arg11_r0 : BitVec 32) (arg12_r0 : BitVec 32) : BitVec 1 :=
  let c0_i32_172_r0 : BitVec 32 := 0#32
  let v169_r0 : BitVec 32 := Scalar.addi arg9_r0 c0_i32_172_r0
  let c0_i32_174_r0 : BitVec 32 := 0#32
  let v171_r0 : BitVec 32 := Scalar.addi arg11_r0 c0_i32_174_r0
  let v173_r0 : BitVec 1 := Scalar.cmpi .ne v169_r0 v171_r0
  let c0_i32_173_r0 : BitVec 32 := 0#32
  let v170_r0 : BitVec 32 := Scalar.addi arg10_r0 c0_i32_173_r0
  let c0_i32_175_r0 : BitVec 32 := 0#32
  let v172_r0 : BitVec 32 := Scalar.addi arg12_r0 c0_i32_175_r0
  let v174_r0 : BitVec 1 := Scalar.cmpi .ne v170_r0 v172_r0
  let v175_r0 : BitVec 1 := Scalar.ori v173_r0 v174_r0
  let v176_r0 : BitVec 32 := Scalar.extui v175_r0
  let c0_i32_176_r0 : BitVec 32 := 0#32
  let v177_r0 : BitVec 1 := Scalar.cmpi .ne v176_r0 c0_i32_176_r0
  v177_r0

def k0_off8 (arg13_r0 : BitVec 32) : Fin 4 → Nat :=
  let c4_i32_184_r0 : BitVec 32 := 4#32
  let v187_r0 : BitVec 32 := Scalar.remui arg13_r0 c4_i32_184_r0
  let c0_i32_187_r0 : BitVec 32 := 0#32
  let c0_i32_188_r0 : BitVec 32 := 0#32
  let c0_i32_189_r0 : BitVec 32 := 0#32
  ![v187_r0.toNat, 0, 0, 0]

def k0_chk1 (arg9_r0 : BitVec 32) (arg10_r0 : BitVec 32) (arg11_r0 : BitVec 32) (arg12_r0 : BitVec 32) (arg13_r0 : BitVec 32) : Prop :=
  (∀ (k0_h1 : k0_cond1 arg9_r0 arg10_r0 arg11_r0 arg12_r0 = 1#1), ∀ a, (k0_off7 arg13_r0) a + S1.size a ≤ S4.size a) ∧
  (∀ (k0_h1 : k0_cond1 arg9_r0 arg10_r0 arg11_r0 arg12_r0 = 1#1), ∀ a, (k0_off8 arg13_r0) a + S1x1x512x4096.size a ≤ S4x1x512x4096.size a)
theorem k0_off7_inb : ∀ (arg9_r0 : BitVec 32) (arg10_r0 : BitVec 32) (arg11_r0 : BitVec 32) (arg12_r0 : BitVec 32) (arg13_r0 : BitVec 32) (k0_hw1 : k0_chk1 arg9_r0 arg10_r0 arg11_r0 arg12_r0 arg13_r0), ∀ (k0_h1 : k0_cond1 arg9_r0 arg10_r0 arg11_r0 arg12_r0 = 1#1), ∀ a, (k0_off7 arg13_r0) a + S1.size a ≤ S4.size a := fun arg9_r0 arg10_r0 arg11_r0 arg12_r0 arg13_r0 k0_hw1 k0_h1 => k0_hw1.1 k0_h1
theorem k0_off8_inb : ∀ (arg9_r0 : BitVec 32) (arg10_r0 : BitVec 32) (arg11_r0 : BitVec 32) (arg12_r0 : BitVec 32) (arg13_r0 : BitVec 32) (k0_hw1 : k0_chk1 arg9_r0 arg10_r0 arg11_r0 arg12_r0 arg13_r0), ∀ (k0_h1 : k0_cond1 arg9_r0 arg10_r0 arg11_r0 arg12_r0 = 1#1), ∀ a, (k0_off8 arg13_r0) a + S1x1x512x4096.size a ≤ S4x1x512x4096.size a := fun arg9_r0 arg10_r0 arg11_r0 arg12_r0 arg13_r0 k0_hw1 k0_h1 => k0_hw1.2 k0_h1

def k0_off9 (arg11_r0 : BitVec 32) (arg12_r0 : BitVec 32) : Fin 3 → Nat :=
  let c1_i32_185_r0 : BitVec 32 := 1#32
  let c0_i32_174_r0 : BitVec 32 := 0#32
  let v171_r0 : BitVec 32 := Scalar.addi arg11_r0 c0_i32_174_r0
  let v188_r0 : BitVec 32 := Scalar.muli c1_i32_185_r0 v171_r0
  let c512_i32_186_r0 : BitVec 32 := 512#32
  let c0_i32_175_r0 : BitVec 32 := 0#32
  let v172_r0 : BitVec 32 := Scalar.addi arg12_r0 c0_i32_175_r0
  let v189_r0 : BitVec 32 := Scalar.muli c512_i32_186_r0 v172_r0
  let c0_i32_190_r0 : BitVec 32 := 0#32
  ![v188_r0.toNat, v189_r0.toNat, 0]

def k0_chk2 (arg9_r0 : BitVec 32) (arg10_r0 : BitVec 32) (arg11_r0 : BitVec 32) (arg12_r0 : BitVec 32) : Prop :=
  (∀ (k0_h1 : k0_cond1 arg9_r0 arg10_r0 arg11_r0 arg12_r0 = 1#1), ∀ a, (k0_off9 arg11_r0 arg12_r0) a + S1x512x4096.size a ≤ S4x4096x4096.size a)
theorem k0_off9_inb : ∀ (arg9_r0 : BitVec 32) (arg10_r0 : BitVec 32) (arg11_r0 : BitVec 32) (arg12_r0 : BitVec 32) (k0_hw2 : k0_chk2 arg9_r0 arg10_r0 arg11_r0 arg12_r0), ∀ (k0_h1 : k0_cond1 arg9_r0 arg10_r0 arg11_r0 arg12_r0 = 1#1), ∀ a, (k0_off9 arg11_r0 arg12_r0) a + S1x512x4096.size a ≤ S4x4096x4096.size a := fun arg9_r0 arg10_r0 arg11_r0 arg12_r0 k0_hw2 k0_h1 => k0_hw2 k0_h1

def k0_off10 (arg13_r0 : BitVec 32) : Fin 1 → Nat :=
  let c4_i32_184_r0 : BitVec 32 := 4#32
  let v187_r0 : BitVec 32 := Scalar.remui arg13_r0 c4_i32_184_r0
  ![v187_r0.toNat]
def k0_cond2 (arg9_r0 : BitVec 32) (arg10_r0 : BitVec 32) (arg11_r0 : BitVec 32) (arg12_r0 : BitVec 32) : BitVec 1 :=
  let c0_i32_172_r0 : BitVec 32 := 0#32
  let v169_r0 : BitVec 32 := Scalar.addi arg9_r0 c0_i32_172_r0
  let c0_i32_174_r0 : BitVec 32 := 0#32
  let v171_r0 : BitVec 32 := Scalar.addi arg11_r0 c0_i32_174_r0
  let v173_r0 : BitVec 1 := Scalar.cmpi .ne v169_r0 v171_r0
  let c0_i32_173_r0 : BitVec 32 := 0#32
  let v170_r0 : BitVec 32 := Scalar.addi arg10_r0 c0_i32_173_r0
  let c0_i32_175_r0 : BitVec 32 := 0#32
  let v172_r0 : BitVec 32 := Scalar.addi arg12_r0 c0_i32_175_r0
  let v174_r0 : BitVec 1 := Scalar.cmpi .ne v170_r0 v172_r0
  let v175_r0 : BitVec 1 := Scalar.ori v173_r0 v174_r0
  let v176_r0 : BitVec 32 := Scalar.extui v175_r0
  let c0_i32_176_r0 : BitVec 32 := 0#32
  let v177_r0 : BitVec 1 := Scalar.cmpi .ne v176_r0 c0_i32_176_r0
  v177_r0

def k0_off11 (arg13_r0 : BitVec 32) : Fin 4 → Nat :=
  let c4_i32_184_r0 : BitVec 32 := 4#32
  let v187_r0 : BitVec 32 := Scalar.remui arg13_r0 c4_i32_184_r0
  let c0_i32_187_r0 : BitVec 32 := 0#32
  let c0_i32_188_r0 : BitVec 32 := 0#32
  let c0_i32_189_r0 : BitVec 32 := 0#32
  ![v187_r0.toNat, 0, 0, 0]

def k0_chk3 (arg9_r0 : BitVec 32) (arg10_r0 : BitVec 32) (arg11_r0 : BitVec 32) (arg12_r0 : BitVec 32) (arg13_r0 : BitVec 32) : Prop :=
  (∀ (k0_h2 : k0_cond2 arg9_r0 arg10_r0 arg11_r0 arg12_r0 = 1#1), ∀ a, (k0_off10 arg13_r0) a + S1.size a ≤ S4.size a) ∧
  (∀ (k0_h2 : k0_cond2 arg9_r0 arg10_r0 arg11_r0 arg12_r0 = 1#1), ∀ a, (k0_off11 arg13_r0) a + S1x1x512x4096.size a ≤ S4x1x512x4096.size a)
theorem k0_off10_inb : ∀ (arg9_r0 : BitVec 32) (arg10_r0 : BitVec 32) (arg11_r0 : BitVec 32) (arg12_r0 : BitVec 32) (arg13_r0 : BitVec 32) (k0_hw3 : k0_chk3 arg9_r0 arg10_r0 arg11_r0 arg12_r0 arg13_r0), ∀ (k0_h2 : k0_cond2 arg9_r0 arg10_r0 arg11_r0 arg12_r0 = 1#1), ∀ a, (k0_off10 arg13_r0) a + S1.size a ≤ S4.size a := fun arg9_r0 arg10_r0 arg11_r0 arg12_r0 arg13_r0 k0_hw3 k0_h2 => k0_hw3.1 k0_h2
theorem k0_off11_inb : ∀ (arg9_r0 : BitVec 32) (arg10_r0 : BitVec 32) (arg11_r0 : BitVec 32) (arg12_r0 : BitVec 32) (arg13_r0 : BitVec 32) (k0_hw3 : k0_chk3 arg9_r0 arg10_r0 arg11_r0 arg12_r0 arg13_r0), ∀ (k0_h2 : k0_cond2 arg9_r0 arg10_r0 arg11_r0 arg12_r0 = 1#1), ∀ a, (k0_off11 arg13_r0) a + S1x1x512x4096.size a ≤ S4x1x512x4096.size a := fun arg9_r0 arg10_r0 arg11_r0 arg12_r0 arg13_r0 k0_hw3 k0_h2 => k0_hw3.2 k0_h2

def k0_off12 (arg11_r0 : BitVec 32) (arg12_r0 : BitVec 32) : Fin 3 → Nat :=
  let c1_i32_185_r0 : BitVec 32 := 1#32
  let c0_i32_174_r0 : BitVec 32 := 0#32
  let v171_r0 : BitVec 32 := Scalar.addi arg11_r0 c0_i32_174_r0
  let v188_r0 : BitVec 32 := Scalar.muli c1_i32_185_r0 v171_r0
  let c512_i32_186_r0 : BitVec 32 := 512#32
  let c0_i32_175_r0 : BitVec 32 := 0#32
  let v172_r0 : BitVec 32 := Scalar.addi arg12_r0 c0_i32_175_r0
  let v189_r0 : BitVec 32 := Scalar.muli c512_i32_186_r0 v172_r0
  let c0_i32_190_r0 : BitVec 32 := 0#32
  ![v188_r0.toNat, v189_r0.toNat, 0]

def k0_chk4 (arg9_r0 : BitVec 32) (arg10_r0 : BitVec 32) (arg11_r0 : BitVec 32) (arg12_r0 : BitVec 32) : Prop :=
  (∀ (k0_h2 : k0_cond2 arg9_r0 arg10_r0 arg11_r0 arg12_r0 = 1#1), ∀ a, (k0_off12 arg11_r0 arg12_r0) a + S1x512x4096.size a ≤ S4x4096x4096.size a)
theorem k0_off12_inb : ∀ (arg9_r0 : BitVec 32) (arg10_r0 : BitVec 32) (arg11_r0 : BitVec 32) (arg12_r0 : BitVec 32) (k0_hw4 : k0_chk4 arg9_r0 arg10_r0 arg11_r0 arg12_r0), ∀ (k0_h2 : k0_cond2 arg9_r0 arg10_r0 arg11_r0 arg12_r0 = 1#1), ∀ a, (k0_off12 arg11_r0 arg12_r0) a + S1x512x4096.size a ≤ S4x4096x4096.size a := fun arg9_r0 arg10_r0 arg11_r0 arg12_r0 k0_hw4 k0_h2 => k0_hw4 k0_h2

@[reducible] def k0_t1_loop : Scf.Loop 32 :=
  let c0_i32_108_r0 : BitVec 32 := 0#32
  let c32_i32_r0 : BitVec 32 := 32#32
  let v99_r0 : BitVec 32 := Scalar.addi c0_i32_108_r0 c32_i32_r0
  let c1_i32_109_r0 : BitVec 32 := 1#32
  ⟨c0_i32_108_r0, v99_r0, c1_i32_109_r0⟩
def k0_off13 (arg26_r0 : BitVec 32) : Fin 1 → Nat :=
  let c4_i32_339_r0 : BitVec 32 := 4#32
  let v463_r0 : BitVec 32 := Scalar.remui arg26_r0 c4_i32_339_r0
  ![v463_r0.toNat]
def k0_cond3 (arg22_r0 : BitVec 32) (arg23_r0 : BitVec 32) (arg24_r0 : BitVec 32) (arg25_r0 : BitVec 32) : BitVec 1 :=
  let c0_i32_327_r0 : BitVec 32 := 0#32
  let v445_r0 : BitVec 32 := Scalar.addi arg22_r0 c0_i32_327_r0
  let c0_i32_329_r0 : BitVec 32 := 0#32
  let v447_r0 : BitVec 32 := Scalar.addi arg24_r0 c0_i32_329_r0
  let v449_r0 : BitVec 1 := Scalar.cmpi .ne v445_r0 v447_r0
  let c0_i32_328_r0 : BitVec 32 := 0#32
  let v446_r0 : BitVec 32 := Scalar.addi arg23_r0 c0_i32_328_r0
  let c0_i32_330_r0 : BitVec 32 := 0#32
  let v448_r0 : BitVec 32 := Scalar.addi arg25_r0 c0_i32_330_r0
  let v450_r0 : BitVec 1 := Scalar.cmpi .ne v446_r0 v448_r0
  let v451_r0 : BitVec 1 := Scalar.ori v449_r0 v450_r0
  let v452_r0 : BitVec 32 := Scalar.extui v451_r0
  let c0_i32_331_r0 : BitVec 32 := 0#32
  let v453_r0 : BitVec 1 := Scalar.cmpi .ne v452_r0 c0_i32_331_r0
  v453_r0

def k0_off14 (arg26_r0 : BitVec 32) : Fin 4 → Nat :=
  let c4_i32_339_r0 : BitVec 32 := 4#32
  let v463_r0 : BitVec 32 := Scalar.remui arg26_r0 c4_i32_339_r0
  let c0_i32_342_r0 : BitVec 32 := 0#32
  let c0_i32_343_r0 : BitVec 32 := 0#32
  let c0_i32_344_r0 : BitVec 32 := 0#32
  ![v463_r0.toNat, 0, 0, 0]

def k0_chk5 (arg22_r0 : BitVec 32) (arg23_r0 : BitVec 32) (arg24_r0 : BitVec 32) (arg25_r0 : BitVec 32) (arg26_r0 : BitVec 32) : Prop :=
  (∀ (k0_h3 : k0_cond3 arg22_r0 arg23_r0 arg24_r0 arg25_r0 = 1#1), ∀ a, (k0_off13 arg26_r0) a + S1.size a ≤ S4.size a) ∧
  (∀ (k0_h3 : k0_cond3 arg22_r0 arg23_r0 arg24_r0 arg25_r0 = 1#1), ∀ a, (k0_off14 arg26_r0) a + S1x1x512x4096.size a ≤ S4x1x512x4096.size a)
theorem k0_off13_inb : ∀ (arg22_r0 : BitVec 32) (arg23_r0 : BitVec 32) (arg24_r0 : BitVec 32) (arg25_r0 : BitVec 32) (arg26_r0 : BitVec 32) (k0_hw5 : k0_chk5 arg22_r0 arg23_r0 arg24_r0 arg25_r0 arg26_r0), ∀ (k0_h3 : k0_cond3 arg22_r0 arg23_r0 arg24_r0 arg25_r0 = 1#1), ∀ a, (k0_off13 arg26_r0) a + S1.size a ≤ S4.size a := fun arg22_r0 arg23_r0 arg24_r0 arg25_r0 arg26_r0 k0_hw5 k0_h3 => k0_hw5.1 k0_h3
theorem k0_off14_inb : ∀ (arg22_r0 : BitVec 32) (arg23_r0 : BitVec 32) (arg24_r0 : BitVec 32) (arg25_r0 : BitVec 32) (arg26_r0 : BitVec 32) (k0_hw5 : k0_chk5 arg22_r0 arg23_r0 arg24_r0 arg25_r0 arg26_r0), ∀ (k0_h3 : k0_cond3 arg22_r0 arg23_r0 arg24_r0 arg25_r0 = 1#1), ∀ a, (k0_off14 arg26_r0) a + S1x1x512x4096.size a ≤ S4x1x512x4096.size a := fun arg22_r0 arg23_r0 arg24_r0 arg25_r0 arg26_r0 k0_hw5 k0_h3 => k0_hw5.2 k0_h3

def k0_off15 (arg24_r0 : BitVec 32) (arg25_r0 : BitVec 32) : Fin 3 → Nat :=
  let c1_i32_340_r0 : BitVec 32 := 1#32
  let c0_i32_329_r0 : BitVec 32 := 0#32
  let v447_r0 : BitVec 32 := Scalar.addi arg24_r0 c0_i32_329_r0
  let v464_r0 : BitVec 32 := Scalar.muli c1_i32_340_r0 v447_r0
  let c512_i32_341_r0 : BitVec 32 := 512#32
  let c0_i32_330_r0 : BitVec 32 := 0#32
  let v448_r0 : BitVec 32 := Scalar.addi arg25_r0 c0_i32_330_r0
  let v465_r0 : BitVec 32 := Scalar.muli c512_i32_341_r0 v448_r0
  let c0_i32_345_r0 : BitVec 32 := 0#32
  ![v464_r0.toNat, v465_r0.toNat, 0]

def k0_chk6 (arg22_r0 : BitVec 32) (arg23_r0 : BitVec 32) (arg24_r0 : BitVec 32) (arg25_r0 : BitVec 32) : Prop :=
  (∀ (k0_h3 : k0_cond3 arg22_r0 arg23_r0 arg24_r0 arg25_r0 = 1#1), ∀ a, (k0_off15 arg24_r0 arg25_r0) a + S1x512x4096.size a ≤ S4x4096x4096.size a)
theorem k0_off15_inb : ∀ (arg22_r0 : BitVec 32) (arg23_r0 : BitVec 32) (arg24_r0 : BitVec 32) (arg25_r0 : BitVec 32) (k0_hw6 : k0_chk6 arg22_r0 arg23_r0 arg24_r0 arg25_r0), ∀ (k0_h3 : k0_cond3 arg22_r0 arg23_r0 arg24_r0 arg25_r0 = 1#1), ∀ a, (k0_off15 arg24_r0 arg25_r0) a + S1x512x4096.size a ≤ S4x4096x4096.size a := fun arg22_r0 arg23_r0 arg24_r0 arg25_r0 k0_hw6 k0_h3 => k0_hw6 k0_h3

def k0_off16 (arg14_r0 : BitVec 32) : Fin 1 → Nat :=
  let c2_i32_327_r0 : BitVec 32 := 2#32
  let v445_r0 : BitVec 32 := Scalar.remui arg14_r0 c2_i32_327_r0
  ![v445_r0.toNat]
def k0_cond4 (k0_t1 : Fin k0_t1_loop.trips) (arg20_r0 : BitVec 32) (arg21_r0 : BitVec 32) : BitVec 1 :=
  let c0_i32_173_r0 : BitVec 32 := 0#32
  let v171_r0 : BitVec 32 := Scalar.addi arg20_r0 c0_i32_173_r0
  let true_185_r0 : BitVec 1 := 1#1
  let c1_i32_184_r0 : BitVec 32 := 1#32
  let v183_r0 : BitVec 32 := Scalar.addi arg21_r0 c1_i32_184_r0
  let v184_r0 : BitVec 32 := Scalar.select true_185_r0 v183_r0 arg21_r0
  let c8_i32_186_r0 : BitVec 32 := 8#32
  let v185_r0 : BitVec 1 := Scalar.cmpi .eq v184_r0 c8_i32_186_r0
  let c1_i32_188_r0 : BitVec 32 := 1#32
  let v187_r0 : BitVec 32 := Scalar.addi arg20_r0 c1_i32_188_r0
  let v188_r0 : BitVec 32 := Scalar.select v185_r0 v187_r0 arg20_r0
  let c4_i32_189_r0 : BitVec 32 := 4#32
  let v189_r0 : BitVec 1 := Scalar.cmpi .eq v188_r0 c4_i32_189_r0
  let c0_i32_190_r0 : BitVec 32 := 0#32
  let v190_r0 : BitVec 32 := Scalar.select v189_r0 c0_i32_190_r0 v188_r0
  let c0_i32_191_r0 : BitVec 32 := 0#32
  let v191_r0 : BitVec 32 := Scalar.addi v190_r0 c0_i32_191_r0
  let v238_r0 : BitVec 1 := Scalar.cmpi .ne v171_r0 v191_r0
  let c0_i32_108_r0 : BitVec 32 := 0#32
  let c1_i32_109_r0 : BitVec 32 := 1#32
  let arg9_r0 : BitVec 32 := Scf.iv c0_i32_108_r0 c1_i32_109_r0 k0_t1
  let c31_i32_229_r0 : BitVec 32 := 31#32
  let v239_r0 : BitVec 1 := Scalar.cmpi .sge arg9_r0 c31_i32_229_r0
  let true_230_r0 : BitVec 1 := 1#1
  let v240_r0 : BitVec 1 := Scalar.xori v239_r0 true_230_r0
  let v241_r0 : BitVec 1 := Scalar.andi v238_r0 v240_r0
  let true_231_r0 : BitVec 1 := 1#1
  let v242_r0 : BitVec 1 := Scalar.andi v241_r0 true_231_r0
  let v243_r0 : BitVec 32 := Scalar.extui v242_r0
  let c0_i32_232_r0 : BitVec 32 := 0#32
  let v244_r0 : BitVec 1 := Scalar.cmpi .ne v243_r0 c0_i32_232_r0
  v244_r0

def k0_off17 (arg14_r0 : BitVec 32) : Fin 4 → Nat :=
  let c2_i32_327_r0 : BitVec 32 := 2#32
  let v445_r0 : BitVec 32 := Scalar.remui arg14_r0 c2_i32_327_r0
  let c0_i32_329_r0 : BitVec 32 := 0#32
  let c0_i32_330_r0 : BitVec 32 := 0#32
  let c0_i32_331_r0 : BitVec 32 := 0#32
  ![v445_r0.toNat, 0, 0, 0]
def k0_off18 (arg20_r0 : BitVec 32) (arg21_r0 : BitVec 32) : Fin 3 → Nat :=
  let c1_i32_328_r0 : BitVec 32 := 1#32
  let true_185_r0 : BitVec 1 := 1#1
  let c1_i32_184_r0 : BitVec 32 := 1#32
  let v183_r0 : BitVec 32 := Scalar.addi arg21_r0 c1_i32_184_r0
  let v184_r0 : BitVec 32 := Scalar.select true_185_r0 v183_r0 arg21_r0
  let c8_i32_186_r0 : BitVec 32 := 8#32
  let v185_r0 : BitVec 1 := Scalar.cmpi .eq v184_r0 c8_i32_186_r0
  let c1_i32_188_r0 : BitVec 32 := 1#32
  let v187_r0 : BitVec 32 := Scalar.addi arg20_r0 c1_i32_188_r0
  let v188_r0 : BitVec 32 := Scalar.select v185_r0 v187_r0 arg20_r0
  let c4_i32_189_r0 : BitVec 32 := 4#32
  let v189_r0 : BitVec 1 := Scalar.cmpi .eq v188_r0 c4_i32_189_r0
  let c0_i32_190_r0 : BitVec 32 := 0#32
  let v190_r0 : BitVec 32 := Scalar.select v189_r0 c0_i32_190_r0 v188_r0
  let c0_i32_191_r0 : BitVec 32 := 0#32
  let v191_r0 : BitVec 32 := Scalar.addi v190_r0 c0_i32_191_r0
  let v446_r0 : BitVec 32 := Scalar.muli c1_i32_328_r0 v191_r0
  let c0_i32_332_r0 : BitVec 32 := 0#32
  let c0_i32_333_r0 : BitVec 32 := 0#32
  ![v446_r0.toNat, 0, 0]
def k0_off19 (arg16_r0 : BitVec 32) : Fin 1 → Nat :=
  let c2_i32_327_r0 : BitVec 32 := 2#32
  let v445_r0 : BitVec 32 := Scalar.remui arg16_r0 c2_i32_327_r0
  ![v445_r0.toNat]
def k0_cond5 (k0_t1 : Fin k0_t1_loop.trips) (arg20_r0 : BitVec 32) (arg21_r0 : BitVec 32) : BitVec 1 :=
  let c0_i32_173_r0 : BitVec 32 := 0#32
  let v171_r0 : BitVec 32 := Scalar.addi arg20_r0 c0_i32_173_r0
  let true_185_r0 : BitVec 1 := 1#1
  let c1_i32_184_r0 : BitVec 32 := 1#32
  let v183_r0 : BitVec 32 := Scalar.addi arg21_r0 c1_i32_184_r0
  let v184_r0 : BitVec 32 := Scalar.select true_185_r0 v183_r0 arg21_r0
  let c8_i32_186_r0 : BitVec 32 := 8#32
  let v185_r0 : BitVec 1 := Scalar.cmpi .eq v184_r0 c8_i32_186_r0
  let c1_i32_188_r0 : BitVec 32 := 1#32
  let v187_r0 : BitVec 32 := Scalar.addi arg20_r0 c1_i32_188_r0
  let v188_r0 : BitVec 32 := Scalar.select v185_r0 v187_r0 arg20_r0
  let c4_i32_189_r0 : BitVec 32 := 4#32
  let v189_r0 : BitVec 1 := Scalar.cmpi .eq v188_r0 c4_i32_189_r0
  let c0_i32_190_r0 : BitVec 32 := 0#32
  let v190_r0 : BitVec 32 := Scalar.select v189_r0 c0_i32_190_r0 v188_r0
  let c0_i32_191_r0 : BitVec 32 := 0#32
  let v191_r0 : BitVec 32 := Scalar.addi v190_r0 c0_i32_191_r0
  let v248_r0 : BitVec 1 := Scalar.cmpi .ne v171_r0 v191_r0
  let c0_i32_174_r0 : BitVec 32 := 0#32
  let v172_r0 : BitVec 32 := Scalar.addi arg21_r0 c0_i32_174_r0
  let c0_i32_187_r0 : BitVec 32 := 0#32
  let v186_r0 : BitVec 32 := Scalar.select v185_r0 c0_i32_187_r0 v184_r0
  let c0_i32_192_r0 : BitVec 32 := 0#32
  let v192_r0 : BitVec 32 := Scalar.addi v186_r0 c0_i32_192_r0
  let v249_r0 : BitVec 1 := Scalar.cmpi .ne v172_r0 v192_r0
  let v250_r0 : BitVec 1 := Scalar.ori v248_r0 v249_r0
  let c0_i32_108_r0 : BitVec 32 := 0#32
  let c1_i32_109_r0 : BitVec 32 := 1#32
  let arg9_r0 : BitVec 32 := Scf.iv c0_i32_108_r0 c1_i32_109_r0 k0_t1
  let c31_i32_235_r0 : BitVec 32 := 31#32
  let v251_r0 : BitVec 1 := Scalar.cmpi .sge arg9_r0 c31_i32_235_r0
  let true_236_r0 : BitVec 1 := 1#1
  let v252_r0 : BitVec 1 := Scalar.xori v251_r0 true_236_r0
  let v253_r0 : BitVec 1 := Scalar.andi v250_r0 v252_r0
  let true_237_r0 : BitVec 1 := 1#1
  let v254_r0 : BitVec 1 := Scalar.andi v253_r0 true_237_r0
  let v255_r0 : BitVec 32 := Scalar.extui v254_r0
  let c0_i32_238_r0 : BitVec 32 := 0#32
  let v256_r0 : BitVec 1 := Scalar.cmpi .ne v255_r0 c0_i32_238_r0
  v256_r0

def k0_off20 (arg16_r0 : BitVec 32) : Fin 4 → Nat :=
  let c2_i32_327_r0 : BitVec 32 := 2#32
  let v445_r0 : BitVec 32 := Scalar.remui arg16_r0 c2_i32_327_r0
  let c0_i32_330_r0 : BitVec 32 := 0#32
  let c0_i32_331_r0 : BitVec 32 := 0#32
  let c0_i32_332_r0 : BitVec 32 := 0#32
  ![v445_r0.toNat, 0, 0, 0]
def k0_off21 (arg20_r0 : BitVec 32) (arg21_r0 : BitVec 32) : Fin 3 → Nat :=
  let c1_i32_328_r0 : BitVec 32 := 1#32
  let true_185_r0 : BitVec 1 := 1#1
  let c1_i32_184_r0 : BitVec 32 := 1#32
  let v183_r0 : BitVec 32 := Scalar.addi arg21_r0 c1_i32_184_r0
  let v184_r0 : BitVec 32 := Scalar.select true_185_r0 v183_r0 arg21_r0
  let c8_i32_186_r0 : BitVec 32 := 8#32
  let v185_r0 : BitVec 1 := Scalar.cmpi .eq v184_r0 c8_i32_186_r0
  let c1_i32_188_r0 : BitVec 32 := 1#32
  let v187_r0 : BitVec 32 := Scalar.addi arg20_r0 c1_i32_188_r0
  let v188_r0 : BitVec 32 := Scalar.select v185_r0 v187_r0 arg20_r0
  let c4_i32_189_r0 : BitVec 32 := 4#32
  let v189_r0 : BitVec 1 := Scalar.cmpi .eq v188_r0 c4_i32_189_r0
  let c0_i32_190_r0 : BitVec 32 := 0#32
  let v190_r0 : BitVec 32 := Scalar.select v189_r0 c0_i32_190_r0 v188_r0
  let c0_i32_191_r0 : BitVec 32 := 0#32
  let v191_r0 : BitVec 32 := Scalar.addi v190_r0 c0_i32_191_r0
  let v446_r0 : BitVec 32 := Scalar.muli c1_i32_328_r0 v191_r0
  let c512_i32_329_r0 : BitVec 32 := 512#32
  let c0_i32_187_r0 : BitVec 32 := 0#32
  let v186_r0 : BitVec 32 := Scalar.select v185_r0 c0_i32_187_r0 v184_r0
  let c0_i32_192_r0 : BitVec 32 := 0#32
  let v192_r0 : BitVec 32 := Scalar.addi v186_r0 c0_i32_192_r0
  let v447_r0 : BitVec 32 := Scalar.muli c512_i32_329_r0 v192_r0
  let c0_i32_333_r0 : BitVec 32 := 0#32
  ![v446_r0.toNat, v447_r0.toNat, 0]
def k0_off22 (arg11_r0 : BitVec 32) : Fin 1 → Nat :=
  let c4_i32_329_r0 : BitVec 32 := 4#32
  let v447_r0 : BitVec 32 := Scalar.remui arg11_r0 c4_i32_329_r0
  ![v447_r0.toNat]
def k0_cond6 (k0_t1 : Fin k0_t1_loop.trips) (arg20_r0 : BitVec 32) (arg21_r0 : BitVec 32) : BitVec 1 :=
  let c0_i32_173_r0 : BitVec 32 := 0#32
  let v171_r0 : BitVec 32 := Scalar.addi arg20_r0 c0_i32_173_r0
  let true_176_r0 : BitVec 1 := 1#1
  let c1_i32_175_r0 : BitVec 32 := 1#32
  let v173_r0 : BitVec 32 := Scalar.subi arg21_r0 c1_i32_175_r0
  let v174_r0 : BitVec 32 := Scalar.select true_176_r0 v173_r0 arg21_r0
  let c_m1_i32_177_r0 : BitVec 32 := 4294967295#32
  let v175_r0 : BitVec 1 := Scalar.cmpi .eq v174_r0 c_m1_i32_177_r0
  let c1_i32_179_r0 : BitVec 32 := 1#32
  let v177_r0 : BitVec 32 := Scalar.subi arg20_r0 c1_i32_179_r0
  let v178_r0 : BitVec 32 := Scalar.select v175_r0 v177_r0 arg20_r0
  let c_m1_i32_180_r0 : BitVec 32 := 4294967295#32
  let v179_r0 : BitVec 1 := Scalar.cmpi .eq v178_r0 c_m1_i32_180_r0
  let c3_i32_181_r0 : BitVec 32 := 3#32
  let v180_r0 : BitVec 32 := Scalar.select v179_r0 c3_i32_181_r0 v178_r0
  let c0_i32_182_r0 : BitVec 32 := 0#32
  let v181_r0 : BitVec 32 := Scalar.addi v180_r0 c0_i32_182_r0
  let v266_r0 : BitVec 1 := Scalar.cmpi .ne v171_r0 v181_r0
  let c0_i32_174_r0 : BitVec 32 := 0#32
  let v172_r0 : BitVec 32 := Scalar.addi arg21_r0 c0_i32_174_r0
  let c7_i32_178_r0 : BitVec 32 := 7#32
  let v176_r0 : BitVec 32 := Scalar.select v175_r0 c7_i32_178_r0 v174_r0
  let c0_i32_183_r0 : BitVec 32 := 0#32
  let v182_r0 : BitVec 32 := Scalar.addi v176_r0 c0_i32_183_r0
  let v267_r0 : BitVec 1 := Scalar.cmpi .ne v172_r0 v182_r0
  let v268_r0 : BitVec 1 := Scalar.ori v266_r0 v267_r0
  let c0_i32_108_r0 : BitVec 32 := 0#32
  let c1_i32_109_r0 : BitVec 32 := 1#32
  let arg9_r0 : BitVec 32 := Scf.iv c0_i32_108_r0 c1_i32_109_r0 k0_t1
  let c0_i32_172_r0 : BitVec 32 := 0#32
  let v169_r0 : BitVec 1 := Scalar.cmpi .eq arg9_r0 c0_i32_172_r0
  let v269_r0 : BitVec 1 := Scalar.ori v268_r0 v169_r0
  let c0_i32_243_r0 : BitVec 32 := 0#32
  let v270_r0 : BitVec 1 := Scalar.cmpi .sge arg9_r0 c0_i32_243_r0
  let v271_r0 : BitVec 1 := Scalar.andi v269_r0 v270_r0
  let v272_r0 : BitVec 32 := Scalar.extui v271_r0
  let c0_i32_244_r0 : BitVec 32 := 0#32
  let v273_r0 : BitVec 1 := Scalar.cmpi .ne v272_r0 c0_i32_244_r0
  v273_r0

def k0_off23 (arg11_r0 : BitVec 32) : Fin 4 → Nat :=
  let c4_i32_329_r0 : BitVec 32 := 4#32
  let v447_r0 : BitVec 32 := Scalar.remui arg11_r0 c4_i32_329_r0
  let c0_i32_330_r0 : BitVec 32 := 0#32
  let c0_i32_331_r0 : BitVec 32 := 0#32
  let c0_i32_332_r0 : BitVec 32 := 0#32
  ![v447_r0.toNat, 0, 0, 0]
def k0_off24 (arg20_r0 : BitVec 32) (arg21_r0 : BitVec 32) : Fin 3 → Nat :=
  let c1_i32_327_r0 : BitVec 32 := 1#32
  let c0_i32_173_r0 : BitVec 32 := 0#32
  let v171_r0 : BitVec 32 := Scalar.addi arg20_r0 c0_i32_173_r0
  let v445_r0 : BitVec 32 := Scalar.muli c1_i32_327_r0 v171_r0
  let c512_i32_328_r0 : BitVec 32 := 512#32
  let c0_i32_174_r0 : BitVec 32 := 0#32
  let v172_r0 : BitVec 32 := Scalar.addi arg21_r0 c0_i32_174_r0
  let v446_r0 : BitVec 32 := Scalar.muli c512_i32_328_r0 v172_r0
  let c0_i32_333_r0 : BitVec 32 := 0#32
  ![v445_r0.toNat, v446_r0.toNat, 0]
def k0_off25 (arg15_r0 : BitVec 32) : Fin 1 → Nat :=
  let c2_i32_328_r0 : BitVec 32 := 2#32
  let v446_r0 : BitVec 32 := Scalar.remui arg15_r0 c2_i32_328_r0
  ![v446_r0.toNat]
def k0_cond7 (k0_t1 : Fin k0_t1_loop.trips) (arg20_r0 : BitVec 32) (arg21_r0 : BitVec 32) : BitVec 1 :=
  let c0_i32_173_r0 : BitVec 32 := 0#32
  let v171_r0 : BitVec 32 := Scalar.addi arg20_r0 c0_i32_173_r0
  let true_176_r0 : BitVec 1 := 1#1
  let c1_i32_175_r0 : BitVec 32 := 1#32
  let v173_r0 : BitVec 32 := Scalar.subi arg21_r0 c1_i32_175_r0
  let v174_r0 : BitVec 32 := Scalar.select true_176_r0 v173_r0 arg21_r0
  let c_m1_i32_177_r0 : BitVec 32 := 4294967295#32
  let v175_r0 : BitVec 1 := Scalar.cmpi .eq v174_r0 c_m1_i32_177_r0
  let c1_i32_179_r0 : BitVec 32 := 1#32
  let v177_r0 : BitVec 32 := Scalar.subi arg20_r0 c1_i32_179_r0
  let v178_r0 : BitVec 32 := Scalar.select v175_r0 v177_r0 arg20_r0
  let c_m1_i32_180_r0 : BitVec 32 := 4294967295#32
  let v179_r0 : BitVec 1 := Scalar.cmpi .eq v178_r0 c_m1_i32_180_r0
  let c3_i32_181_r0 : BitVec 32 := 3#32
  let v180_r0 : BitVec 32 := Scalar.select v179_r0 c3_i32_181_r0 v178_r0
  let c0_i32_182_r0 : BitVec 32 := 0#32
  let v181_r0 : BitVec 32 := Scalar.addi v180_r0 c0_i32_182_r0
  let v274_r0 : BitVec 1 := Scalar.cmpi .ne v171_r0 v181_r0
  let c0_i32_108_r0 : BitVec 32 := 0#32
  let c1_i32_109_r0 : BitVec 32 := 1#32
  let arg9_r0 : BitVec 32 := Scf.iv c0_i32_108_r0 c1_i32_109_r0 k0_t1
  let c0_i32_172_r0 : BitVec 32 := 0#32
  let v169_r0 : BitVec 1 := Scalar.cmpi .eq arg9_r0 c0_i32_172_r0
  let v275_r0 : BitVec 1 := Scalar.ori v274_r0 v169_r0
  let c0_i32_245_r0 : BitVec 32 := 0#32
  let v276_r0 : BitVec 1 := Scalar.cmpi .sge arg9_r0 c0_i32_245_r0
  let v277_r0 : BitVec 1 := Scalar.andi v275_r0 v276_r0
  let v278_r0 : BitVec 32 := Scalar.extui v277_r0
  let c0_i32_246_r0 : BitVec 32 := 0#32
  let v279_r0 : BitVec 1 := Scalar.cmpi .ne v278_r0 c0_i32_246_r0
  v279_r0

def k0_off26 (arg15_r0 : BitVec 32) : Fin 4 → Nat :=
  let c2_i32_328_r0 : BitVec 32 := 2#32
  let v446_r0 : BitVec 32 := Scalar.remui arg15_r0 c2_i32_328_r0
  let c0_i32_329_r0 : BitVec 32 := 0#32
  let c0_i32_330_r0 : BitVec 32 := 0#32
  let c0_i32_331_r0 : BitVec 32 := 0#32
  ![v446_r0.toNat, 0, 0, 0]
def k0_off27 (arg20_r0 : BitVec 32) : Fin 3 → Nat :=
  let c1_i32_327_r0 : BitVec 32 := 1#32
  let c0_i32_173_r0 : BitVec 32 := 0#32
  let v171_r0 : BitVec 32 := Scalar.addi arg20_r0 c0_i32_173_r0
  let v445_r0 : BitVec 32 := Scalar.muli c1_i32_327_r0 v171_r0
  let c0_i32_332_r0 : BitVec 32 := 0#32
  let c0_i32_333_r0 : BitVec 32 := 0#32
  ![v445_r0.toNat, 0, 0]
def k0_off28 (arg17_r0 : BitVec 32) : Fin 1 → Nat :=
  let c2_i32_329_r0 : BitVec 32 := 2#32
  let v447_r0 : BitVec 32 := Scalar.remui arg17_r0 c2_i32_329_r0
  ![v447_r0.toNat]
def k0_cond8 (k0_t1 : Fin k0_t1_loop.trips) (arg20_r0 : BitVec 32) (arg21_r0 : BitVec 32) : BitVec 1 :=
  let c0_i32_173_r0 : BitVec 32 := 0#32
  let v171_r0 : BitVec 32 := Scalar.addi arg20_r0 c0_i32_173_r0
  let true_176_r0 : BitVec 1 := 1#1
  let c1_i32_175_r0 : BitVec 32 := 1#32
  let v173_r0 : BitVec 32 := Scalar.subi arg21_r0 c1_i32_175_r0
  let v174_r0 : BitVec 32 := Scalar.select true_176_r0 v173_r0 arg21_r0
  let c_m1_i32_177_r0 : BitVec 32 := 4294967295#32
  let v175_r0 : BitVec 1 := Scalar.cmpi .eq v174_r0 c_m1_i32_177_r0
  let c1_i32_179_r0 : BitVec 32 := 1#32
  let v177_r0 : BitVec 32 := Scalar.subi arg20_r0 c1_i32_179_r0
  let v178_r0 : BitVec 32 := Scalar.select v175_r0 v177_r0 arg20_r0
  let c_m1_i32_180_r0 : BitVec 32 := 4294967295#32
  let v179_r0 : BitVec 1 := Scalar.cmpi .eq v178_r0 c_m1_i32_180_r0
  let c3_i32_181_r0 : BitVec 32 := 3#32
  let v180_r0 : BitVec 32 := Scalar.select v179_r0 c3_i32_181_r0 v178_r0
  let c0_i32_182_r0 : BitVec 32 := 0#32
  let v181_r0 : BitVec 32 := Scalar.addi v180_r0 c0_i32_182_r0
  let v280_r0 : BitVec 1 := Scalar.cmpi .ne v171_r0 v181_r0
  let c0_i32_174_r0 : BitVec 32 := 0#32
  let v172_r0 : BitVec 32 := Scalar.addi arg21_r0 c0_i32_174_r0
  let c7_i32_178_r0 : BitVec 32 := 7#32
  let v176_r0 : BitVec 32 := Scalar.select v175_r0 c7_i32_178_r0 v174_r0
  let c0_i32_183_r0 : BitVec 32 := 0#32
  let v182_r0 : BitVec 32 := Scalar.addi v176_r0 c0_i32_183_r0
  let v281_r0 : BitVec 1 := Scalar.cmpi .ne v172_r0 v182_r0
  let v282_r0 : BitVec 1 := Scalar.ori v280_r0 v281_r0
  let c0_i32_108_r0 : BitVec 32 := 0#32
  let c1_i32_109_r0 : BitVec 32 := 1#32
  let arg9_r0 : BitVec 32 := Scf.iv c0_i32_108_r0 c1_i32_109_r0 k0_t1
  let c0_i32_172_r0 : BitVec 32 := 0#32
  let v169_r0 : BitVec 1 := Scalar.cmpi .eq arg9_r0 c0_i32_172_r0
  let v283_r0 : BitVec 1 := Scalar.ori v282_r0 v169_r0
  let c0_i32_247_r0 : BitVec 32 := 0#32
  let v284_r0 : BitVec 1 := Scalar.cmpi .sge arg9_r0 c0_i32_247_r0
  let v285_r0 : BitVec 1 := Scalar.andi v283_r0 v284_r0
  let v286_r0 : BitVec 32 := Scalar.extui v285_r0
  let c0_i32_248_r0 : BitVec 32 := 0#32
  let v287_r0 : BitVec 1 := Scalar.cmpi .ne v286_r0 c0_i32_248_r0
  v287_r0

def k0_off29 (arg17_r0 : BitVec 32) : Fin 4 → Nat :=
  let c2_i32_329_r0 : BitVec 32 := 2#32
  let v447_r0 : BitVec 32 := Scalar.remui arg17_r0 c2_i32_329_r0
  let c0_i32_330_r0 : BitVec 32 := 0#32
  let c0_i32_331_r0 : BitVec 32 := 0#32
  let c0_i32_332_r0 : BitVec 32 := 0#32
  ![v447_r0.toNat, 0, 0, 0]
def k0_off30 (arg20_r0 : BitVec 32) (arg21_r0 : BitVec 32) : Fin 3 → Nat :=
  let c1_i32_327_r0 : BitVec 32 := 1#32
  let c0_i32_173_r0 : BitVec 32 := 0#32
  let v171_r0 : BitVec 32 := Scalar.addi arg20_r0 c0_i32_173_r0
  let v445_r0 : BitVec 32 := Scalar.muli c1_i32_327_r0 v171_r0
  let c512_i32_328_r0 : BitVec 32 := 512#32
  let c0_i32_174_r0 : BitVec 32 := 0#32
  let v172_r0 : BitVec 32 := Scalar.addi arg21_r0 c0_i32_174_r0
  let v446_r0 : BitVec 32 := Scalar.muli c512_i32_328_r0 v172_r0
  let c0_i32_333_r0 : BitVec 32 := 0#32
  ![v445_r0.toNat, v446_r0.toNat, 0]
def k0_off31 (arg11_r0 : BitVec 32) : Fin 4 → Nat :=
  let c4_i32_251_r0 : BitVec 32 := 4#32
  let v296_r0 : BitVec 32 := Scalar.remui arg11_r0 c4_i32_251_r0
  let c0_i32_255_r0 : BitVec 32 := 0#32
  let c0_i32_256_r0 : BitVec 32 := 0#32
  let c0_i32_257_r0 : BitVec 32 := 0#32
  ![v296_r0.toNat, 0, 0, 0]

def k0_chk8 (arg11_r0 : BitVec 32) : Prop :=
  (∀ a, (k0_off31 arg11_r0) a + S1x1x512x4096.size a ≤ S4x1x512x4096.size a)
theorem k0_off31_inb : ∀ (arg11_r0 : BitVec 32) (k0_hw8 : k0_chk8 arg11_r0), ∀ a, (k0_off31 arg11_r0) a + S1x1x512x4096.size a ≤ S4x1x512x4096.size a := fun arg11_r0 k0_hw8 => k0_hw8

def k0_off32 (arg15_r0 : BitVec 32) : Fin 4 → Nat :=
  let c2_i32_252_r0 : BitVec 32 := 2#32
  let v297_r0 : BitVec 32 := Scalar.remui arg15_r0 c2_i32_252_r0
  let c0_i32_260_r0 : BitVec 32 := 0#32
  let c0_i32_261_r0 : BitVec 32 := 0#32
  let c0_i32_262_r0 : BitVec 32 := 0#32
  ![v297_r0.toNat, 0, 0, 0]

def k0_chk9 (arg15_r0 : BitVec 32) : Prop :=
  (∀ a, (k0_off32 arg15_r0) a + S1x1x4096x32.size a ≤ S2x1x4096x32.size a)
theorem k0_off32_inb : ∀ (arg15_r0 : BitVec 32) (k0_hw9 : k0_chk9 arg15_r0), ∀ a, (k0_off32 arg15_r0) a + S1x1x4096x32.size a ≤ S2x1x4096x32.size a := fun arg15_r0 k0_hw9 => k0_hw9

def k0_off33 (arg17_r0 : BitVec 32) : Fin 4 → Nat :=
  let c2_i32_253_r0 : BitVec 32 := 2#32
  let v298_r0 : BitVec 32 := Scalar.remui arg17_r0 c2_i32_253_r0
  let c0_i32_268_r0 : BitVec 32 := 0#32
  let c0_i32_269_r0 : BitVec 32 := 0#32
  let c0_i32_270_r0 : BitVec 32 := 0#32
  ![v298_r0.toNat, 0, 0, 0]

def k0_chk10 (arg17_r0 : BitVec 32) : Prop :=
  (∀ a, (k0_off33 arg17_r0) a + S1x1x512x32.size a ≤ S2x1x512x32.size a)
theorem k0_off33_inb : ∀ (arg17_r0 : BitVec 32) (k0_hw10 : k0_chk10 arg17_r0), ∀ a, (k0_off33 arg17_r0) a + S1x1x512x32.size a ≤ S2x1x512x32.size a := fun arg17_r0 k0_hw10 => k0_hw10

def k0_off34 (arg18_r0 : BitVec 32) : Fin 4 → Nat :=
  let c2_i32_254_r0 : BitVec 32 := 2#32
  let v299_r0 : BitVec 32 := Scalar.remui arg18_r0 c2_i32_254_r0
  let c0_i32_289_r0 : BitVec 32 := 0#32
  let c0_i32_290_r0 : BitVec 32 := 0#32
  let c0_i32_291_r0 : BitVec 32 := 0#32
  ![v299_r0.toNat, 0, 0, 0]

def k0_chk11 (arg18_r0 : BitVec 32) : Prop :=
  (∀ a, (k0_off34 arg18_r0) a + S1x1x512x32.size a ≤ S2x1x512x32.size a)
theorem k0_off34_inb : ∀ (arg18_r0 : BitVec 32) (k0_hw11 : k0_chk11 arg18_r0), ∀ a, (k0_off34 arg18_r0) a + S1x1x512x32.size a ≤ S2x1x512x32.size a := fun arg18_r0 k0_hw11 => k0_hw11

def k0_off35 (arg18_r0 : BitVec 32) : Fin 1 → Nat :=
  let c2_i32_327_r0 : BitVec 32 := 2#32
  let v445_r0 : BitVec 32 := Scalar.remui arg18_r0 c2_i32_327_r0
  ![v445_r0.toNat]
def k0_cond13 (k0_t1 : Fin k0_t1_loop.trips) (arg20_r0 : BitVec 32) (arg21_r0 : BitVec 32) : BitVec 1 :=
  let c0_i32_173_r0 : BitVec 32 := 0#32
  let v171_r0 : BitVec 32 := Scalar.addi arg20_r0 c0_i32_173_r0
  let true_185_r0 : BitVec 1 := 1#1
  let c1_i32_184_r0 : BitVec 32 := 1#32
  let v183_r0 : BitVec 32 := Scalar.addi arg21_r0 c1_i32_184_r0
  let v184_r0 : BitVec 32 := Scalar.select true_185_r0 v183_r0 arg21_r0
  let c8_i32_186_r0 : BitVec 32 := 8#32
  let v185_r0 : BitVec 1 := Scalar.cmpi .eq v184_r0 c8_i32_186_r0
  let c1_i32_188_r0 : BitVec 32 := 1#32
  let v187_r0 : BitVec 32 := Scalar.addi arg20_r0 c1_i32_188_r0
  let v188_r0 : BitVec 32 := Scalar.select v185_r0 v187_r0 arg20_r0
  let c4_i32_189_r0 : BitVec 32 := 4#32
  let v189_r0 : BitVec 1 := Scalar.cmpi .eq v188_r0 c4_i32_189_r0
  let c0_i32_190_r0 : BitVec 32 := 0#32
  let v190_r0 : BitVec 32 := Scalar.select v189_r0 c0_i32_190_r0 v188_r0
  let c0_i32_191_r0 : BitVec 32 := 0#32
  let v191_r0 : BitVec 32 := Scalar.addi v190_r0 c0_i32_191_r0
  let v380_r0 : BitVec 1 := Scalar.cmpi .ne v171_r0 v191_r0
  let c0_i32_174_r0 : BitVec 32 := 0#32
  let v172_r0 : BitVec 32 := Scalar.addi arg21_r0 c0_i32_174_r0
  let c0_i32_187_r0 : BitVec 32 := 0#32
  let v186_r0 : BitVec 32 := Scalar.select v185_r0 c0_i32_187_r0 v184_r0
  let c0_i32_192_r0 : BitVec 32 := 0#32
  let v192_r0 : BitVec 32 := Scalar.addi v186_r0 c0_i32_192_r0
  let v381_r0 : BitVec 1 := Scalar.cmpi .ne v172_r0 v192_r0
  let v382_r0 : BitVec 1 := Scalar.ori v380_r0 v381_r0
  let c0_i32_108_r0 : BitVec 32 := 0#32
  let c1_i32_109_r0 : BitVec 32 := 1#32
  let arg9_r0 : BitVec 32 := Scf.iv c0_i32_108_r0 c1_i32_109_r0 k0_t1
  let c31_i32_r0 : BitVec 32 := 31#32
  let v170_r0 : BitVec 1 := Scalar.cmpi .eq arg9_r0 c31_i32_r0
  let v383_r0 : BitVec 1 := Scalar.ori v382_r0 v170_r0
  let v384_r0 : BitVec 32 := Scalar.extui v383_r0
  let c0_i32_301_r0 : BitVec 32 := 0#32
  let v385_r0 : BitVec 1 := Scalar.cmpi .ne v384_r0 c0_i32_301_r0
  v385_r0

def k0_off36 (arg20_r0 : BitVec 32) (arg21_r0 : BitVec 32) : Fin 3 → Nat :=
  let c1_i32_328_r0 : BitVec 32 := 1#32
  let c0_i32_173_r0 : BitVec 32 := 0#32
  let v171_r0 : BitVec 32 := Scalar.addi arg20_r0 c0_i32_173_r0
  let v446_r0 : BitVec 32 := Scalar.muli c1_i32_328_r0 v171_r0
  let c512_i32_329_r0 : BitVec 32 := 512#32
  let c0_i32_174_r0 : BitVec 32 := 0#32
  let v172_r0 : BitVec 32 := Scalar.addi arg21_r0 c0_i32_174_r0
  let v447_r0 : BitVec 32 := Scalar.muli c512_i32_329_r0 v172_r0
  let c0_i32_330_r0 : BitVec 32 := 0#32
  ![v446_r0.toNat, v447_r0.toNat, 0]
def k0_off37 (arg18_r0 : BitVec 32) : Fin 4 → Nat :=
  let c2_i32_327_r0 : BitVec 32 := 2#32
  let v445_r0 : BitVec 32 := Scalar.remui arg18_r0 c2_i32_327_r0
  let c0_i32_331_r0 : BitVec 32 := 0#32
  let c0_i32_332_r0 : BitVec 32 := 0#32
  let c0_i32_333_r0 : BitVec 32 := 0#32
  ![v445_r0.toNat, 0, 0, 0]
def k0_off38 (arg19_r0 : BitVec 32) : Fin 1 → Nat :=
  let c2_i32_327_r0 : BitVec 32 := 2#32
  let v445_r0 : BitVec 32 := Scalar.remui arg19_r0 c2_i32_327_r0
  ![v445_r0.toNat]
def k0_cond17 (k0_t1 : Fin k0_t1_loop.trips) (arg20_r0 : BitVec 32) (arg21_r0 : BitVec 32) : BitVec 1 :=
  let c0_i32_173_r0 : BitVec 32 := 0#32
  let v171_r0 : BitVec 32 := Scalar.addi arg20_r0 c0_i32_173_r0
  let true_176_r0 : BitVec 1 := 1#1
  let c1_i32_175_r0 : BitVec 32 := 1#32
  let v173_r0 : BitVec 32 := Scalar.subi arg21_r0 c1_i32_175_r0
  let v174_r0 : BitVec 32 := Scalar.select true_176_r0 v173_r0 arg21_r0
  let c_m1_i32_177_r0 : BitVec 32 := 4294967295#32
  let v175_r0 : BitVec 1 := Scalar.cmpi .eq v174_r0 c_m1_i32_177_r0
  let c1_i32_179_r0 : BitVec 32 := 1#32
  let v177_r0 : BitVec 32 := Scalar.subi arg20_r0 c1_i32_179_r0
  let v178_r0 : BitVec 32 := Scalar.select v175_r0 v177_r0 arg20_r0
  let c_m1_i32_180_r0 : BitVec 32 := 4294967295#32
  let v179_r0 : BitVec 1 := Scalar.cmpi .eq v178_r0 c_m1_i32_180_r0
  let c3_i32_181_r0 : BitVec 32 := 3#32
  let v180_r0 : BitVec 32 := Scalar.select v179_r0 c3_i32_181_r0 v178_r0
  let c0_i32_182_r0 : BitVec 32 := 0#32
  let v181_r0 : BitVec 32 := Scalar.addi v180_r0 c0_i32_182_r0
  let v411_r0 : BitVec 1 := Scalar.cmpi .ne v171_r0 v181_r0
  let c0_i32_174_r0 : BitVec 32 := 0#32
  let v172_r0 : BitVec 32 := Scalar.addi arg21_r0 c0_i32_174_r0
  let c7_i32_178_r0 : BitVec 32 := 7#32
  let v176_r0 : BitVec 32 := Scalar.select v175_r0 c7_i32_178_r0 v174_r0
  let c0_i32_183_r0 : BitVec 32 := 0#32
  let v182_r0 : BitVec 32 := Scalar.addi v176_r0 c0_i32_183_r0
  let v412_r0 : BitVec 1 := Scalar.cmpi .ne v172_r0 v182_r0
  let v413_r0 : BitVec 1 := Scalar.ori v411_r0 v412_r0
  let c0_i32_108_r0 : BitVec 32 := 0#32
  let c1_i32_109_r0 : BitVec 32 := 1#32
  let arg9_r0 : BitVec 32 := Scf.iv c0_i32_108_r0 c1_i32_109_r0 k0_t1
  let c0_i32_172_r0 : BitVec 32 := 0#32
  let v169_r0 : BitVec 1 := Scalar.cmpi .eq arg9_r0 c0_i32_172_r0
  let true_313_r0 : BitVec 1 := 1#1
  let v414_r0 : BitVec 1 := Scalar.xori v169_r0 true_313_r0
  let v415_r0 : BitVec 1 := Scalar.andi v413_r0 v414_r0
  let v416_r0 : BitVec 32 := Scalar.extui v415_r0
  let c0_i32_314_r0 : BitVec 32 := 0#32
  let v417_r0 : BitVec 1 := Scalar.cmpi .ne v416_r0 c0_i32_314_r0
  v417_r0

def k0_off39 (arg20_r0 : BitVec 32) (arg21_r0 : BitVec 32) : Fin 3 → Nat :=
  let c1_i32_328_r0 : BitVec 32 := 1#32
  let true_176_r0 : BitVec 1 := 1#1
  let c1_i32_175_r0 : BitVec 32 := 1#32
  let v173_r0 : BitVec 32 := Scalar.subi arg21_r0 c1_i32_175_r0
  let v174_r0 : BitVec 32 := Scalar.select true_176_r0 v173_r0 arg21_r0
  let c_m1_i32_177_r0 : BitVec 32 := 4294967295#32
  let v175_r0 : BitVec 1 := Scalar.cmpi .eq v174_r0 c_m1_i32_177_r0
  let c1_i32_179_r0 : BitVec 32 := 1#32
  let v177_r0 : BitVec 32 := Scalar.subi arg20_r0 c1_i32_179_r0
  let v178_r0 : BitVec 32 := Scalar.select v175_r0 v177_r0 arg20_r0
  let c_m1_i32_180_r0 : BitVec 32 := 4294967295#32
  let v179_r0 : BitVec 1 := Scalar.cmpi .eq v178_r0 c_m1_i32_180_r0
  let c3_i32_181_r0 : BitVec 32 := 3#32
  let v180_r0 : BitVec 32 := Scalar.select v179_r0 c3_i32_181_r0 v178_r0
  let c0_i32_182_r0 : BitVec 32 := 0#32
  let v181_r0 : BitVec 32 := Scalar.addi v180_r0 c0_i32_182_r0
  let v446_r0 : BitVec 32 := Scalar.muli c1_i32_328_r0 v181_r0
  let c512_i32_329_r0 : BitVec 32 := 512#32
  let c7_i32_178_r0 : BitVec 32 := 7#32
  let v176_r0 : BitVec 32 := Scalar.select v175_r0 c7_i32_178_r0 v174_r0
  let c0_i32_183_r0 : BitVec 32 := 0#32
  let v182_r0 : BitVec 32 := Scalar.addi v176_r0 c0_i32_183_r0
  let v447_r0 : BitVec 32 := Scalar.muli c512_i32_329_r0 v182_r0
  let c0_i32_330_r0 : BitVec 32 := 0#32
  ![v446_r0.toNat, v447_r0.toNat, 0]
def k0_off40 (arg19_r0 : BitVec 32) : Fin 4 → Nat :=
  let c2_i32_327_r0 : BitVec 32 := 2#32
  let v445_r0 : BitVec 32 := Scalar.remui arg19_r0 c2_i32_327_r0
  let c0_i32_331_r0 : BitVec 32 := 0#32
  let c0_i32_332_r0 : BitVec 32 := 0#32
  let c0_i32_333_r0 : BitVec 32 := 0#32
  ![v445_r0.toNat, 0, 0, 0]

def k0_chk7 (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) : Prop :=
  (∀ (k0_h4 : k0_cond4 k0_t1 arg20_r0 arg21_r0 = 1#1), ∀ a, (k0_off16 arg14_r0) a + S1.size a ≤ S2.size a) ∧
  (∀ (k0_h4 : k0_cond4 k0_t1 arg20_r0 arg21_r0 = 1#1), ∀ a, (k0_off17 arg14_r0) a + S1x1x4096x32.size a ≤ S2x1x4096x32.size a) ∧
  (∀ (k0_h4 : k0_cond4 k0_t1 arg20_r0 arg21_r0 = 1#1), ∀ a, (k0_off18 arg20_r0 arg21_r0) a + S1x4096x32.size a ≤ S4x4096x32.size a) ∧
  (∀ (k0_h5 : k0_cond5 k0_t1 arg20_r0 arg21_r0 = 1#1), ∀ a, (k0_off19 arg16_r0) a + S1.size a ≤ S2.size a) ∧
  (∀ (k0_h5 : k0_cond5 k0_t1 arg20_r0 arg21_r0 = 1#1), ∀ a, (k0_off20 arg16_r0) a + S1x1x512x32.size a ≤ S2x1x512x32.size a) ∧
  (∀ (k0_h5 : k0_cond5 k0_t1 arg20_r0 arg21_r0 = 1#1), ∀ a, (k0_off21 arg20_r0 arg21_r0) a + S1x512x32.size a ≤ S4x4096x32.size a) ∧
  (∀ (k0_h6 : k0_cond6 k0_t1 arg20_r0 arg21_r0 = 1#1), ∀ a, (k0_off22 arg11_r0) a + S1.size a ≤ S4.size a) ∧
  (∀ (k0_h6 : k0_cond6 k0_t1 arg20_r0 arg21_r0 = 1#1), ∀ a, (k0_off23 arg11_r0) a + S1x1x512x4096.size a ≤ S4x1x512x4096.size a) ∧
  (∀ (k0_h6 : k0_cond6 k0_t1 arg20_r0 arg21_r0 = 1#1), ∀ a, (k0_off24 arg20_r0 arg21_r0) a + S1x512x4096.size a ≤ S4x4096x4096.size a) ∧
  (∀ (k0_h7 : k0_cond7 k0_t1 arg20_r0 arg21_r0 = 1#1), ∀ a, (k0_off25 arg15_r0) a + S1.size a ≤ S2.size a) ∧
  (∀ (k0_h7 : k0_cond7 k0_t1 arg20_r0 arg21_r0 = 1#1), ∀ a, (k0_off26 arg15_r0) a + S1x1x4096x32.size a ≤ S2x1x4096x32.size a) ∧
  (∀ (k0_h7 : k0_cond7 k0_t1 arg20_r0 arg21_r0 = 1#1), ∀ a, (k0_off27 arg20_r0) a + S1x4096x32.size a ≤ S4x4096x32.size a) ∧
  (∀ (k0_h8 : k0_cond8 k0_t1 arg20_r0 arg21_r0 = 1#1), ∀ a, (k0_off28 arg17_r0) a + S1.size a ≤ S2.size a) ∧
  (∀ (k0_h8 : k0_cond8 k0_t1 arg20_r0 arg21_r0 = 1#1), ∀ a, (k0_off29 arg17_r0) a + S1x1x512x32.size a ≤ S2x1x512x32.size a) ∧
  (∀ (k0_h8 : k0_cond8 k0_t1 arg20_r0 arg21_r0 = 1#1), ∀ a, (k0_off30 arg20_r0 arg21_r0) a + S1x512x32.size a ≤ S4x4096x32.size a) ∧
  (∀ (k0_h13 : k0_cond13 k0_t1 arg20_r0 arg21_r0 = 1#1), ∀ a, (k0_off35 arg18_r0) a + S1.size a ≤ S2.size a) ∧
  (∀ (k0_h13 : k0_cond13 k0_t1 arg20_r0 arg21_r0 = 1#1), ∀ a, (k0_off36 arg20_r0 arg21_r0) a + S1x512x32.size a ≤ S4x4096x32.size a) ∧
  (∀ (k0_h13 : k0_cond13 k0_t1 arg20_r0 arg21_r0 = 1#1), ∀ a, (k0_off37 arg18_r0) a + S1x1x512x32.size a ≤ S2x1x512x32.size a) ∧
  (∀ (k0_h17 : k0_cond17 k0_t1 arg20_r0 arg21_r0 = 1#1), ∀ a, (k0_off38 arg19_r0) a + S1.size a ≤ S2.size a) ∧
  (∀ (k0_h17 : k0_cond17 k0_t1 arg20_r0 arg21_r0 = 1#1), ∀ a, (k0_off39 arg20_r0 arg21_r0) a + S1x512x32.size a ≤ S4x4096x32.size a) ∧
  (∀ (k0_h17 : k0_cond17 k0_t1 arg20_r0 arg21_r0 = 1#1), ∀ a, (k0_off40 arg19_r0) a + S1x1x512x32.size a ≤ S2x1x512x32.size a)
theorem k0_off16_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h4 : k0_cond4 k0_t1 arg20_r0 arg21_r0 = 1#1), ∀ a, (k0_off16 arg14_r0) a + S1.size a ≤ S2.size a := fun k0_t1 arg11_r0 arg14_r0 arg15_r0 arg16_r0 arg17_r0 arg18_r0 arg19_r0 arg20_r0 arg21_r0 k0_hw7 k0_h4 => k0_hw7.1 k0_h4
theorem k0_off17_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h4 : k0_cond4 k0_t1 arg20_r0 arg21_r0 = 1#1), ∀ a, (k0_off17 arg14_r0) a + S1x1x4096x32.size a ≤ S2x1x4096x32.size a := fun k0_t1 arg11_r0 arg14_r0 arg15_r0 arg16_r0 arg17_r0 arg18_r0 arg19_r0 arg20_r0 arg21_r0 k0_hw7 k0_h4 => k0_hw7.2.1 k0_h4
theorem k0_off18_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h4 : k0_cond4 k0_t1 arg20_r0 arg21_r0 = 1#1), ∀ a, (k0_off18 arg20_r0 arg21_r0) a + S1x4096x32.size a ≤ S4x4096x32.size a := fun k0_t1 arg11_r0 arg14_r0 arg15_r0 arg16_r0 arg17_r0 arg18_r0 arg19_r0 arg20_r0 arg21_r0 k0_hw7 k0_h4 => k0_hw7.2.2.1 k0_h4
theorem k0_off19_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h5 : k0_cond5 k0_t1 arg20_r0 arg21_r0 = 1#1), ∀ a, (k0_off19 arg16_r0) a + S1.size a ≤ S2.size a := fun k0_t1 arg11_r0 arg14_r0 arg15_r0 arg16_r0 arg17_r0 arg18_r0 arg19_r0 arg20_r0 arg21_r0 k0_hw7 k0_h5 => k0_hw7.2.2.2.1 k0_h5
theorem k0_off20_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h5 : k0_cond5 k0_t1 arg20_r0 arg21_r0 = 1#1), ∀ a, (k0_off20 arg16_r0) a + S1x1x512x32.size a ≤ S2x1x512x32.size a := fun k0_t1 arg11_r0 arg14_r0 arg15_r0 arg16_r0 arg17_r0 arg18_r0 arg19_r0 arg20_r0 arg21_r0 k0_hw7 k0_h5 => k0_hw7.2.2.2.2.1 k0_h5
theorem k0_off21_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h5 : k0_cond5 k0_t1 arg20_r0 arg21_r0 = 1#1), ∀ a, (k0_off21 arg20_r0 arg21_r0) a + S1x512x32.size a ≤ S4x4096x32.size a := fun k0_t1 arg11_r0 arg14_r0 arg15_r0 arg16_r0 arg17_r0 arg18_r0 arg19_r0 arg20_r0 arg21_r0 k0_hw7 k0_h5 => k0_hw7.2.2.2.2.2.1 k0_h5
theorem k0_off22_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h6 : k0_cond6 k0_t1 arg20_r0 arg21_r0 = 1#1), ∀ a, (k0_off22 arg11_r0) a + S1.size a ≤ S4.size a := fun k0_t1 arg11_r0 arg14_r0 arg15_r0 arg16_r0 arg17_r0 arg18_r0 arg19_r0 arg20_r0 arg21_r0 k0_hw7 k0_h6 => k0_hw7.2.2.2.2.2.2.1 k0_h6
theorem k0_off23_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h6 : k0_cond6 k0_t1 arg20_r0 arg21_r0 = 1#1), ∀ a, (k0_off23 arg11_r0) a + S1x1x512x4096.size a ≤ S4x1x512x4096.size a := fun k0_t1 arg11_r0 arg14_r0 arg15_r0 arg16_r0 arg17_r0 arg18_r0 arg19_r0 arg20_r0 arg21_r0 k0_hw7 k0_h6 => k0_hw7.2.2.2.2.2.2.2.1 k0_h6
theorem k0_off24_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h6 : k0_cond6 k0_t1 arg20_r0 arg21_r0 = 1#1), ∀ a, (k0_off24 arg20_r0 arg21_r0) a + S1x512x4096.size a ≤ S4x4096x4096.size a := fun k0_t1 arg11_r0 arg14_r0 arg15_r0 arg16_r0 arg17_r0 arg18_r0 arg19_r0 arg20_r0 arg21_r0 k0_hw7 k0_h6 => k0_hw7.2.2.2.2.2.2.2.2.1 k0_h6
theorem k0_off25_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h7 : k0_cond7 k0_t1 arg20_r0 arg21_r0 = 1#1), ∀ a, (k0_off25 arg15_r0) a + S1.size a ≤ S2.size a := fun k0_t1 arg11_r0 arg14_r0 arg15_r0 arg16_r0 arg17_r0 arg18_r0 arg19_r0 arg20_r0 arg21_r0 k0_hw7 k0_h7 => k0_hw7.2.2.2.2.2.2.2.2.2.1 k0_h7
theorem k0_off26_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h7 : k0_cond7 k0_t1 arg20_r0 arg21_r0 = 1#1), ∀ a, (k0_off26 arg15_r0) a + S1x1x4096x32.size a ≤ S2x1x4096x32.size a := fun k0_t1 arg11_r0 arg14_r0 arg15_r0 arg16_r0 arg17_r0 arg18_r0 arg19_r0 arg20_r0 arg21_r0 k0_hw7 k0_h7 => k0_hw7.2.2.2.2.2.2.2.2.2.2.1 k0_h7
theorem k0_off27_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h7 : k0_cond7 k0_t1 arg20_r0 arg21_r0 = 1#1), ∀ a, (k0_off27 arg20_r0) a + S1x4096x32.size a ≤ S4x4096x32.size a := fun k0_t1 arg11_r0 arg14_r0 arg15_r0 arg16_r0 arg17_r0 arg18_r0 arg19_r0 arg20_r0 arg21_r0 k0_hw7 k0_h7 => k0_hw7.2.2.2.2.2.2.2.2.2.2.2.1 k0_h7
theorem k0_off28_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h8 : k0_cond8 k0_t1 arg20_r0 arg21_r0 = 1#1), ∀ a, (k0_off28 arg17_r0) a + S1.size a ≤ S2.size a := fun k0_t1 arg11_r0 arg14_r0 arg15_r0 arg16_r0 arg17_r0 arg18_r0 arg19_r0 arg20_r0 arg21_r0 k0_hw7 k0_h8 => k0_hw7.2.2.2.2.2.2.2.2.2.2.2.2.1 k0_h8
theorem k0_off29_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h8 : k0_cond8 k0_t1 arg20_r0 arg21_r0 = 1#1), ∀ a, (k0_off29 arg17_r0) a + S1x1x512x32.size a ≤ S2x1x512x32.size a := fun k0_t1 arg11_r0 arg14_r0 arg15_r0 arg16_r0 arg17_r0 arg18_r0 arg19_r0 arg20_r0 arg21_r0 k0_hw7 k0_h8 => k0_hw7.2.2.2.2.2.2.2.2.2.2.2.2.2.1 k0_h8
theorem k0_off30_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h8 : k0_cond8 k0_t1 arg20_r0 arg21_r0 = 1#1), ∀ a, (k0_off30 arg20_r0 arg21_r0) a + S1x512x32.size a ≤ S4x4096x32.size a := fun k0_t1 arg11_r0 arg14_r0 arg15_r0 arg16_r0 arg17_r0 arg18_r0 arg19_r0 arg20_r0 arg21_r0 k0_hw7 k0_h8 => k0_hw7.2.2.2.2.2.2.2.2.2.2.2.2.2.2.1 k0_h8
theorem k0_off35_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h13 : k0_cond13 k0_t1 arg20_r0 arg21_r0 = 1#1), ∀ a, (k0_off35 arg18_r0) a + S1.size a ≤ S2.size a := fun k0_t1 arg11_r0 arg14_r0 arg15_r0 arg16_r0 arg17_r0 arg18_r0 arg19_r0 arg20_r0 arg21_r0 k0_hw7 k0_h13 => k0_hw7.2.2.2.2.2.2.2.2.2.2.2.2.2.2.2.1 k0_h13
theorem k0_off36_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h13 : k0_cond13 k0_t1 arg20_r0 arg21_r0 = 1#1), ∀ a, (k0_off36 arg20_r0 arg21_r0) a + S1x512x32.size a ≤ S4x4096x32.size a := fun k0_t1 arg11_r0 arg14_r0 arg15_r0 arg16_r0 arg17_r0 arg18_r0 arg19_r0 arg20_r0 arg21_r0 k0_hw7 k0_h13 => k0_hw7.2.2.2.2.2.2.2.2.2.2.2.2.2.2.2.2.1 k0_h13
theorem k0_off37_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h13 : k0_cond13 k0_t1 arg20_r0 arg21_r0 = 1#1), ∀ a, (k0_off37 arg18_r0) a + S1x1x512x32.size a ≤ S2x1x512x32.size a := fun k0_t1 arg11_r0 arg14_r0 arg15_r0 arg16_r0 arg17_r0 arg18_r0 arg19_r0 arg20_r0 arg21_r0 k0_hw7 k0_h13 => k0_hw7.2.2.2.2.2.2.2.2.2.2.2.2.2.2.2.2.2.1 k0_h13
theorem k0_off38_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h17 : k0_cond17 k0_t1 arg20_r0 arg21_r0 = 1#1), ∀ a, (k0_off38 arg19_r0) a + S1.size a ≤ S2.size a := fun k0_t1 arg11_r0 arg14_r0 arg15_r0 arg16_r0 arg17_r0 arg18_r0 arg19_r0 arg20_r0 arg21_r0 k0_hw7 k0_h17 => k0_hw7.2.2.2.2.2.2.2.2.2.2.2.2.2.2.2.2.2.2.1 k0_h17
theorem k0_off39_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h17 : k0_cond17 k0_t1 arg20_r0 arg21_r0 = 1#1), ∀ a, (k0_off39 arg20_r0 arg21_r0) a + S1x512x32.size a ≤ S4x4096x32.size a := fun k0_t1 arg11_r0 arg14_r0 arg15_r0 arg16_r0 arg17_r0 arg18_r0 arg19_r0 arg20_r0 arg21_r0 k0_hw7 k0_h17 => k0_hw7.2.2.2.2.2.2.2.2.2.2.2.2.2.2.2.2.2.2.2.1 k0_h17
theorem k0_off40_inb : ∀ (k0_t1 : Fin k0_t1_loop.trips) (arg11_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (k0_hw7 : k0_chk7 k0_t1 arg11_r0 arg14_r0 arg15_r0 arg16_r0 arg17_r0 arg18_r0 arg19_r0 arg20_r0 arg21_r0), ∀ (k0_h17 : k0_cond17 k0_t1 arg20_r0 arg21_r0 = 1#1), ∀ a, (k0_off40 arg19_r0) a + S1x1x512x32.size a ≤ S2x1x512x32.size a := fun k0_t1 arg11_r0 arg14_r0 arg15_r0 arg16_r0 arg17_r0 arg18_r0 arg19_r0 arg20_r0 arg21_r0 k0_hw7 k0_h17 => k0_hw7.2.2.2.2.2.2.2.2.2.2.2.2.2.2.2.2.2.2.2.2 k0_h17

def k0_off41 (v100_9_r0 : BitVec 32) : Fin 1 → Nat :=
  let c2_i32_165_r0 : BitVec 32 := 2#32
  let v161_r0 : BitVec 32 := Scalar.remui v100_9_r0 c2_i32_165_r0
  ![v161_r0.toNat]

def k0_off42 (v100_11_r0 : BitVec 32) (v100_10_r0 : BitVec 32) : Fin 3 → Nat :=
  let c1_i32_166_r0 : BitVec 32 := 1#32
  let true_112_r0 : BitVec 1 := 1#1
  let c1_i32_111_r0 : BitVec 32 := 1#32
  let v101_r0 : BitVec 32 := Scalar.subi v100_11_r0 c1_i32_111_r0
  let v102_r0 : BitVec 32 := Scalar.select true_112_r0 v101_r0 v100_11_r0
  let c_m1_i32_113_r0 : BitVec 32 := 4294967295#32
  let v103_r0 : BitVec 1 := Scalar.cmpi .eq v102_r0 c_m1_i32_113_r0
  let c1_i32_115_r0 : BitVec 32 := 1#32
  let v105_r0 : BitVec 32 := Scalar.subi v100_10_r0 c1_i32_115_r0
  let v106_r0 : BitVec 32 := Scalar.select v103_r0 v105_r0 v100_10_r0
  let c_m1_i32_116_r0 : BitVec 32 := 4294967295#32
  let v107_r0 : BitVec 1 := Scalar.cmpi .eq v106_r0 c_m1_i32_116_r0
  let c3_i32_117_r0 : BitVec 32 := 3#32
  let v108_r0 : BitVec 32 := Scalar.select v107_r0 c3_i32_117_r0 v106_r0
  let c0_i32_118_r0 : BitVec 32 := 0#32
  let v109_r0 : BitVec 32 := Scalar.addi v108_r0 c0_i32_118_r0
  let v162_r0 : BitVec 32 := Scalar.muli c1_i32_166_r0 v109_r0
  let c512_i32_167_r0 : BitVec 32 := 512#32
  let c7_i32_114_r0 : BitVec 32 := 7#32
  let v104_r0 : BitVec 32 := Scalar.select v103_r0 c7_i32_114_r0 v102_r0
  let c0_i32_119_r0 : BitVec 32 := 0#32
  let v110_r0 : BitVec 32 := Scalar.addi v104_r0 c0_i32_119_r0
  let v163_r0 : BitVec 32 := Scalar.muli c512_i32_167_r0 v110_r0
  let c0_i32_168_r0 : BitVec 32 := 0#32
  ![v162_r0.toNat, v163_r0.toNat, 0]

def k0_chk13 (v100_11_r0 : BitVec 32) (v100_10_r0 : BitVec 32) : Prop :=
  (∀ a, (k0_off42 v100_11_r0 v100_10_r0) a + S1x512x32.size a ≤ S4x4096x32.size a)
theorem k0_off42_inb : ∀ (v100_11_r0 : BitVec 32) (v100_10_r0 : BitVec 32) (k0_hw13 : k0_chk13 v100_11_r0 v100_10_r0), ∀ a, (k0_off42 v100_11_r0 v100_10_r0) a + S1x512x32.size a ≤ S4x4096x32.size a := fun v100_11_r0 v100_10_r0 k0_hw13 => k0_hw13

def k0_off43 (v100_9_r0 : BitVec 32) : Fin 4 → Nat :=
  let c2_i32_165_r0 : BitVec 32 := 2#32
  let v161_r0 : BitVec 32 := Scalar.remui v100_9_r0 c2_i32_165_r0
  let c0_i32_169_r0 : BitVec 32 := 0#32
  let c0_i32_170_r0 : BitVec 32 := 0#32
  let c0_i32_171_r0 : BitVec 32 := 0#32
  ![v161_r0.toNat, 0, 0, 0]

def k0_chk12 (v100_9_r0 : BitVec 32) : Prop :=
  (∀ a, (k0_off41 v100_9_r0) a + S1.size a ≤ S2.size a) ∧
  (∀ a, (k0_off43 v100_9_r0) a + S1x1x512x32.size a ≤ S2x1x512x32.size a)
theorem k0_off41_inb : ∀ (v100_9_r0 : BitVec 32) (k0_hw12 : k0_chk12 v100_9_r0), ∀ a, (k0_off41 v100_9_r0) a + S1.size a ≤ S2.size a := fun v100_9_r0 k0_hw12 => k0_hw12.1
theorem k0_off43_inb : ∀ (v100_9_r0 : BitVec 32) (k0_hw12 : k0_chk12 v100_9_r0), ∀ a, (k0_off43 v100_9_r0) a + S1x1x512x32.size a ≤ S2x1x512x32.size a := fun v100_9_r0 k0_hw12 => k0_hw12.2

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x4096x4096 : Shape := ⟨3, ![4, 4096, 4096]⟩
abbrev S4x4096x32 : Shape := ⟨3, ![4, 4096, 32]⟩
abbrev S1x1x32 : Shape := ⟨3, ![1, 1, 32]⟩
abbrev S32x96 : Shape := ⟨2, ![32, 96]⟩
abbrev S2x96 : Shape := ⟨2, ![2, 96]⟩
abbrev S32x32 : Shape := ⟨2, ![32, 32]⟩
abbrev S32 : Shape := ⟨1, ![32]⟩
abbrev S16384x32 : Shape := ⟨2, ![16384, 32]⟩
abbrev S16384x96 : Shape := ⟨2, ![16384, 96]⟩
abbrev S1x96 : Shape := ⟨2, ![1, 96]⟩
abbrev S96 : Shape := ⟨1, ![96]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x32, .f32⟩
  | .hbm, ⟨2, _⟩ => ⟨S1x1x32, .f32⟩
  | .hbm, ⟨3, _⟩ => ⟨S32x96, .f32⟩
  | .hbm, ⟨4, _⟩ => ⟨S32x96, .f32⟩
  | .hbm, ⟨5, _⟩ => ⟨S2x96, .f32⟩
  | .hbm, ⟨6, _⟩ => ⟨S32x32, .f32⟩
  | .hbm, ⟨7, _⟩ => ⟨S32, .f32⟩
  | .hbm, ⟨8, _⟩ => ⟨S4x4096x32, .f32⟩
  | .hbm, ⟨9, _⟩ => ⟨S4x4096x32, .f32⟩
  | .hbm, ⟨10, _⟩ => ⟨S4x4096x32, .f32⟩
  | .hbm, ⟨11, _⟩ => ⟨S16384x32, .f32⟩
  | .hbm, ⟨12, _⟩ => ⟨S16384x32, .f32⟩
  | .hbm, ⟨13, _⟩ => ⟨S16384x96, .f32⟩
  | .hbm, ⟨14, _⟩ => ⟨S1x96, .f32⟩
  | .hbm, ⟨15, _⟩ => ⟨S96, .f32⟩
  | .hbm, ⟨16, _⟩ => ⟨S1x96, .f32⟩
  | .hbm, ⟨17, _⟩ => ⟨S16384x96, .f32⟩
  | .hbm, ⟨18, _⟩ => ⟨S16384x96, .f32⟩
  | .hbm, ⟨19, _⟩ => ⟨S16384x96, .f32⟩
  | .hbm, ⟨20, _⟩ => ⟨S1x96, .f32⟩
  | .hbm, ⟨21, _⟩ => ⟨S96, .f32⟩
  | .hbm, ⟨22, _⟩ => ⟨S1x96, .f32⟩
  | .hbm, ⟨23, _⟩ => ⟨S16384x96, .f32⟩
  | .hbm, ⟨24, _⟩ => ⟨S16384x96, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S_, .f32⟩
  | .hbm, ⟨35, _⟩ => ⟨S16384x32, .f32⟩
  | .hbm, ⟨36, _⟩ => ⟨S16384x32, .f32⟩
  | .hbm, ⟨37, _⟩ => ⟨S_, .f32⟩
  | .hbm, ⟨38, _⟩ => ⟨S16384x32, .f32⟩
  | .hbm, ⟨39, _⟩ => ⟨S16384x32, .f32⟩
  | .hbm, ⟨40, _⟩ => ⟨S16384x32, .f32⟩
  | .hbm, ⟨41, _⟩ => ⟨S16384x32, .f32⟩
  | .hbm, ⟨42, _⟩ => ⟨S16384x32, .f32⟩
  | .hbm, ⟨43, _⟩ => ⟨S_, .f32⟩
  | .hbm, ⟨44, _⟩ => ⟨S16384x32, .f32⟩
  | .hbm, ⟨45, _⟩ => ⟨S16384x32, .f32⟩
  | .hbm, ⟨46, _⟩ => ⟨S_, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S_, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x32, .f32⟩
  | .hbm, ⟨58, _⟩ => ⟨S4x4096x32, .f32⟩
  | .hbm, ⟨59, _⟩ => ⟨S4x4096x32, .f32⟩
  | .hbm, ⟨60, _⟩ => ⟨S1x1x32, .f32⟩
  | .hbm, ⟨61, _⟩ => ⟨S4x4096x32, .f32⟩
  | .hbm, ⟨62, _⟩ => ⟨S4x4096x32, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Proof.Ring.lean ====
/-
  The kernel's transfers, one at a time: what is held of a ring's slot before its fetch (`InFree`), while the fetch flies
  (`InFly`) and once it has landed (`InLand`), the same of a result's slot (`OutFly`), and the two rules moving between
  them, for a start and for a wait of the program.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.Kit
public import Idealize.ShloMosaic.Lib.Pipeline.Frame
public import Idealize.ShloMosaic.Lib.Ring
public import Idealize.ShloMosaic.Lib.Tactic
public import Idealize.ShloMosaic.Adequacy
public import Idealize.ShloMosaic.Init

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

/-- The variants of the calls: natural numbers. -/
abbrev 𝒱₀ : Variants := Variants.nat

/-- The counters' place in the algebra. -/
abbrev EC : UEmb Counters 𝕄 := countersEmb

/-- The core's record of its waits, whatever they were; it owes nothing. -/
def Ow (c : Dev nD) : sProp 𝕄 := iprop(∃ W, owes (c : Thread nD τ) 0 W)

section Generic

variable {s : Shape} {sp sp' : Space} (c : Dev nD)
  (S : Memref sig .tc sp s .f32) (D : Memref sig .tc sp' s .f32) (sm : DmaSem sig) (q : PosShare TreeShare)
  (f : Buf (Elt F) (S.view.loc (c : Thread nD τ)))

/-- A transfer in flight from `S` at `f` over `D` at `fd`, signalling `sm`. -/
def FL (fd : Buf (Elt F) (D.view.loc (c : Thread nD τ))) : sProp 𝕄 :=
  Transfers.Flight EC (c : Thread nD τ) (.dma sm) () (D.view.amount (.dma sm))
    iprop((D.view.loc (c : Thread nD τ) ↦[D.view.set]{fullShare} (D.view.write (Elt F) fd (ReadAs.same.apply (S.view.read (Elt F) f)) Finset.univ))
      ∗ (S.view.loc (c : Thread nD τ) ↦[S.view.set]{q} f))

/-- A fetch slot with nothing in flight: the slot at some contents, its counter at zero, a share of the source's array. -/
def InFree : sProp 𝕄 :=
  iprop((∃ d : Buf (Elt F) (D.view.loc (c : Thread nD τ)), (D.view.loc (c : Thread nD τ) ↦[D.view.set]{fullShare} d))
    ∗ semVal ((c : Thread nD τ), SemLoc.dma sm) 0 ∗ (S.view.loc (c : Thread nD τ) ↦{q} f))

/-- A fetch slot with the fetch of `S` in flight; the rest of the source's array stays at the share. -/
def InFly : sProp 𝕄 :=
  iprop((∃ fd : Buf (Elt F) (D.view.loc (c : Thread nD τ)), FL c S D sm q f fd)
    ∗ (S.view.loc (c : Thread nD τ) ↦[Finset.univ \ S.view.set]{q} f))

/-- A fetch slot holding the values of `S`. -/
def InLand : sProp 𝕄 :=
  iprop((∃ d : Buf (Elt F) (D.view.loc (c : Thread nD τ)), (D.view.loc (c : Thread nD τ) ↦[D.view.set]{fullShare} d)
      ∗ ⌜D.view.read (Elt F) d = S.view.read (Elt F) f⌝)
    ∗ semVal ((c : Thread nD τ), SemLoc.dma sm) 0 ∗ (S.view.loc (c : Thread nD τ) ↦{q} f))

/-- A slot whose values are read is free again. -/
theorem land_free : InLand c S D sm q f ⊢ (InFree c S D sm q f : sProp 𝕄) := by
  unfold InLand InFree
  iintro ⟨⟨%d, Hd, %h⟩, Hs, Hq⟩
  isplitl [Hd]
  · iexists d; iexact Hd
  isplitl [Hs]
  · iexact Hs
  · iexact Hq

/-- Starting the fetch of `S` into a free slot. -/
theorem in_start {bd : Option ℕ} {α : Type} {src : Memref sig .tc sp s .f32} {dst : Memref sig .tc sp' s .f32} {sem : SemLoc sig}
    (hs : src = S) (hd : dst = D) (hm : sem = .dma sm) (hN : 0 < s.numel)
    {hsrc : src.view.WordExact} {hdst : dst.view.WordExact} {hsem : (DmaTarget.here dst : DmaTarget nD τ sig (Proc.tc : Proc τ) sp' s .f32).Typed sp sem}
    {k : PUnit → Prog (TpuEff nD τ sig (Elt F) (Λ₀ F) .tc) α} {Q : α → sProp 𝕄} :
    InFree c S D sm q f ⊢ iprop((InFly c S D sm q f -∗ wp frame (wpE (defs₀ (F := F)) 𝒱₀ (c : Thread nD τ) bd) Set.univ (k ⟨⟩) Q)
      -∗ wp frame (wpE (defs₀ (F := F)) 𝒱₀ (c : Thread nD τ) bd) Set.univ (.op (.enqueueDma src (.here dst) sem hsrc hdst hsem) k) Q) := by
  subst hs hd hm
  unfold InFree InFly FL
  iintro ⟨⟨%d, Hd⟩, Hs, Hq⟩ Hk
  ihave Hq2 := (pointsTo_split_subset (Finset.subset_univ src.view.set)).1 $$ Hq
  icases Hq2 with ⟨Hq, Hr⟩
  iapply (Transfers.wp_dmaLocal EC 𝒱₀ (c : Thread nD τ) bd () _ rfl (View.dmaCredit_pos _ hN) (Finset.Subset.refl _)) $$ [Hq Hd Hs]
  · isplitl [Hq]
    · iexact Hq
    isplitl [Hd]
    · iexact Hd
    · iexact Hs
  iintro Hf
  iapply Hk
  isplitl [Hf]
  · iexists d; iexact Hf
  · iexact Hr

/-- Waiting for the fetch in flight: the slot then holds the values of `S`. -/
theorem in_wait {bd : Option ℕ} {α : Type} {srcw : Memref sig .tc sp s .f32} {dstw : Memref sig .tc sp' s .f32} {sem : DmaSem sig}
    (hd : dstw = D) (hm : sem = sm)
    {hsrc : srcw.view.WordExact} {hdst : dstw.view.WordExact}
    {k : PUnit → Prog (TpuEff nD τ sig (Elt F) (Λ₀ F) .tc) α} {Q : α → sProp 𝕄} :
    iprop(InFly c S D sm q f ∗ Ow c) ⊢ iprop((iprop(InLand c S D sm q f ∗ Ow c) -∗ wp frame (wpE (defs₀ (F := F)) 𝒱₀ (c : Thread nD τ) bd) Set.univ (k ⟨⟩) Q)
      -∗ wp frame (wpE (defs₀ (F := F)) 𝒱₀ (c : Thread nD τ) bd) Set.univ (.op (.waitDma2 sem srcw dstw hsrc hdst) k) Q) := by
  subst hd hm
  unfold InFly InLand Ow FL
  iintro ⟨⟨⟨%fd, Hf⟩, Hr⟩, ⟨%W, HO⟩⟩ Hk
  iapply (Transfers.wp_waitLocal EC 𝒱₀ (c : Thread nD τ) bd () rfl) $$ [Hf HO]
  · isplitl [Hf]
    · iexact Hf
    · iexact HO
  iintro ⟨⟨Hd, Hq⟩, Hs, HO⟩
  iapply Hk
  isplitr [HO]
  · isplitl [Hd]
    · iexists _
      isplitl [Hd]
      · iexact Hd
      · ipureintro
        exact View.read_write_univ _ _
    isplitl [Hs]
    · iexact Hs
    · iapply (pointsTo_split_subset (Finset.subset_univ S.view.set)).2
      isplitl [Hq]
      · iexact Hq
      · iexact Hr
  · iexists _; iexact HO

/-- Starting a copy out: the slot at `f`, the destination's block at `fd` and the counter at zero go in flight. -/
theorem out_start {bd : Option ℕ} {α : Type} {src : Memref sig .tc sp s .f32} {dst : Memref sig .tc sp' s .f32} {sem : SemLoc sig}
    (hs : src = S) (hd : dst = D) (hm : sem = .dma sm) (hN : 0 < s.numel)
    {hsrc : src.view.WordExact} {hdst : dst.view.WordExact} {hsem : (DmaTarget.here dst : DmaTarget nD τ sig (Proc.tc : Proc τ) sp' s .f32).Typed sp sem}
    {k : PUnit → Prog (TpuEff nD τ sig (Elt F) (Λ₀ F) .tc) α} {Q : α → sProp 𝕄} (fd : Buf (Elt F) (D.view.loc (c : Thread nD τ))) :
    iprop((S.view.loc (c : Thread nD τ) ↦[S.view.set]{q} f) ∗ (D.view.loc (c : Thread nD τ) ↦[D.view.set]{fullShare} fd) ∗ semVal ((c : Thread nD τ), SemLoc.dma sm) 0)
      ⊢ iprop((FL c S D sm q f fd -∗ wp frame (wpE (defs₀ (F := F)) 𝒱₀ (c : Thread nD τ) bd) Set.univ (k ⟨⟩) Q)
      -∗ wp frame (wpE (defs₀ (F := F)) 𝒱₀ (c : Thread nD τ) bd) Set.univ (.op (.enqueueDma src (.here dst) sem hsrc hdst hsem) k) Q) := by
  subst hs hd hm
  unfold FL
  exact Transfers.wp_dmaLocal EC 𝒱₀ (c : Thread nD τ) bd () _ rfl (View.dmaCredit_pos _ hN) (Finset.Subset.refl _)

/-- Waiting for a copy out: the destination's block comes back rewritten, the slot as it was, the counter at zero. -/
theorem out_wait {bd : Option ℕ} {α : Type} {srcw : Memref sig .tc sp s .f32} {dstw : Memref sig .tc sp' s .f32} {sem : DmaSem sig}
    (hd : dstw = D) (hm : sem = sm)
    {hsrc : srcw.view.WordExact} {hdst : dstw.view.WordExact}
    {k : PUnit → Prog (TpuEff nD τ sig (Elt F) (Λ₀ F) .tc) α} {Q : α → sProp 𝕄} (fd : Buf (Elt F) (D.view.loc (c : Thread nD τ))) :
    iprop(FL c S D sm q f fd ∗ Ow c) ⊢ iprop((iprop(((D.view.loc (c : Thread nD τ) ↦[D.view.set]{fullShare}
            (D.view.write (Elt F) fd (ReadAs.same.apply (S.view.read (Elt F) f)) Finset.univ))
          ∗ (S.view.loc (c : Thread nD τ) ↦[S.view.set]{q} f)) ∗ semVal ((c : Thread nD τ), SemLoc.dma sm) 0 ∗ Ow c)
        -∗ wp frame (wpE (defs₀ (F := F)) 𝒱₀ (c : Thread nD τ) bd) Set.univ (k ⟨⟩) Q)
      -∗ wp frame (wpE (defs₀ (F := F)) 𝒱₀ (c : Thread nD τ) bd) Set.univ (.op (.waitDma2 sem srcw dstw hsrc hdst) k) Q) := by
  subst hd hm
  unfold Ow FL
  iintro ⟨Hf, ⟨%W, HO⟩⟩ Hk
  iapply (Transfers.wp_waitLocal EC 𝒱₀ (c : Thread nD τ) bd () rfl) $$ [Hf HO]
  · isplitl [Hf]
    · iexact Hf
    · iexact HO
  iintro ⟨Hd, Hs, HO⟩
  iapply Hk
  isplitl [Hd]
  · iexact Hd
  isplitl [Hs]
  · iexact Hs
  · iexists _; iexact HO

end Generic

end Cert.Proof.K

end
-- ==== Proof.Names.lean ====
/-
  The names of the kernel's ring slots, blocks and semaphore cells, indexed by the number of the block; the words the
  pipeline's loop carries before each trip; and what the program computes from those words: every offset is a named slot's
  or block's, every condition is decided.
-/
module

public import proofs.«01_k».proof.Proof.Ring

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

/-! ## The operands -/

/-- The adjacency array. -/
abbrev adjM : Memref sig .tc .hbm S4x4096x4096 .f32 := Memref.whole main_arg0
/-- The annotations. -/
abbrev annM : Memref sig .tc .hbm S4x4096x32 .f32 := Memref.whole main_arg1
/-- The result. -/
abbrev resM : Memref sig .tc .hbm S4x4096x32 .f32 := Memref.whole main_v2
/-- The adjacency's ring of four slots. -/
abbrev aR : Memref sig .tc .vmem S4x1x512x4096 .f32 := Memref.whole cc0_scoped0
/-- The ring of two slots of a batch's annotations. -/
abbrev nR : Memref sig .tc .vmem S2x1x4096x32 .f32 := Memref.whole cc0_scoped2
/-- The ring of two slots of a block's own annotations. -/
abbrev hR : Memref sig .tc .vmem S2x1x512x32 .f32 := Memref.whole cc0_scoped4
/-- The result's ring of two slots. -/
abbrev oR : Memref sig .tc .vmem S2x1x512x32 .f32 := Memref.whole cc0_scoped6

/-! ## Offsets -/

/-- Slot `j mod 4` of a ring of four. -/
def off4 (j : ℕ) : Fin 4 → ℕ := ![j % 4, 0, 0, 0]
/-- Slot `j mod 2` of a ring of two. -/
def off2 (j : ℕ) : Fin 4 → ℕ := ![j % 2, 0, 0, 0]
/-- Cell `j mod 4` of four. -/
def cell4 (j : ℕ) : Fin 1 → ℕ := ![j % 4]
/-- Cell `j mod 2` of two. -/
def cell2 (j : ℕ) : Fin 1 → ℕ := ![j % 2]
/-- Block `j` of an array of four batches of eight blocks of 512 rows. -/
def offB (j : ℕ) : Fin 3 → ℕ := ![j / 8 % 4, 512 * (j % 8), 0]
/-- Batch `g`. -/
def offG (g : ℕ) : Fin 3 → ℕ := ![g % 4, 0, 0]

/-- A slot of the adjacency ring lies within the ring. -/
theorem off4_inb (j : ℕ) : ∀ a, off4 j a + S1x1x512x4096.size a ≤ S4x1x512x4096.size a := by
  have := Nat.mod_lt j (show 0 < 4 by decide)
  intro a; fin_cases a <;> simp [off4] <;> omega
/-- A slot of the batch ring lies within the ring. -/
theorem off2_inb_n (j : ℕ) : ∀ a, off2 j a + S1x1x4096x32.size a ≤ S2x1x4096x32.size a := by
  have := Nat.mod_lt j (show 0 < 2 by decide)
  intro a; fin_cases a <;> simp [off2] <;> omega
/-- A slot of the ring of own annotations, or of results, lies within the ring. -/
theorem off2_inb_h (j : ℕ) : ∀ a, off2 j a + S1x1x512x32.size a ≤ S2x1x512x32.size a := by
  have := Nat.mod_lt j (show 0 < 2 by decide)
  intro a; fin_cases a <;> simp [off2] <;> omega
/-- A cell of four lies among the four. -/
theorem cell4_inb (j : ℕ) : ∀ a, cell4 j a + S1.size a ≤ S4.size a := by
  have := Nat.mod_lt j (show 0 < 4 by decide)
  intro a; fin_cases a; simp [cell4]; omega
/-- A cell of two lies among the two. -/
theorem cell2_inb (j : ℕ) : ∀ a, cell2 j a + S1.size a ≤ S2.size a := by
  have := Nat.mod_lt j (show 0 < 2 by decide)
  intro a; fin_cases a; simp [cell2]; omega
/-- A block of the adjacency lies within the adjacency. -/
theorem offB_inb_a (j : ℕ) : ∀ a, offB j a + S1x512x4096.size a ≤ S4x4096x4096.size a := by
  have := Nat.mod_lt (j / 8) (show 0 < 4 by decide)
  have := Nat.mod_lt j (show 0 < 8 by decide)
  intro a; fin_cases a <;> simp [offB] <;> omega
/-- A block of the annotations, or of the result, lies within its array. -/
theorem offB_inb_h (j : ℕ) : ∀ a, offB j a + S1x512x32.size a ≤ S4x4096x32.size a := by
  have := Nat.mod_lt (j / 8) (show 0 < 4 by decide)
  have := Nat.mod_lt j (show 0 < 8 by decide)
  intro a; fin_cases a <;> simp [offB] <;> omega
/-- A batch of the annotations lies within the annotations. -/
theorem offG_inb (j : ℕ) : ∀ a, offG j a + S1x4096x32.size a ≤ S4x4096x32.size a := by
  have := Nat.mod_lt j (show 0 < 4 by decide)
  intro a; fin_cases a <;> simp [offG] <;> omega

/-! ## Slots, blocks, cells -/

/-- The adjacency ring's slot of block `j`. -/
def aSlot (j : ℕ) : Memref sig .tc .vmem S1x512x4096 .f32 :=
  (aR.slice (Rect.unit (s := S4x1x512x4096) (off4 j) S1x1x512x4096.size (off4_inb j)) (fun _ => rfl)).squeeze S1x512x4096 squeezes_S1x1x512x4096_S1x512x4096
/-- The batch ring's slot of batch `g`. -/
def nSlot (g : ℕ) : Memref sig .tc .vmem S1x4096x32 .f32 :=
  (nR.slice (Rect.unit (s := S2x1x4096x32) (off2 g) S1x1x4096x32.size (off2_inb_n g)) (fun _ => rfl)).squeeze S1x4096x32 squeezes_S1x1x4096x32_S1x4096x32
/-- The own annotations' ring's slot of block `j`. -/
def hSlot (j : ℕ) : Memref sig .tc .vmem S1x512x32 .f32 :=
  (hR.slice (Rect.unit (s := S2x1x512x32) (off2 j) S1x1x512x32.size (off2_inb_h j)) (fun _ => rfl)).squeeze S1x512x32 squeezes_S1x1x512x32_S1x512x32
/-- The result ring's slot of block `j`. -/
def oSlot (j : ℕ) : Memref sig .tc .vmem S1x512x32 .f32 :=
  (oR.slice (Rect.unit (s := S2x1x512x32) (off2 j) S1x1x512x32.size (off2_inb_h j)) (fun _ => rfl)).squeeze S1x512x32 squeezes_S1x1x512x32_S1x512x32
/-- Block `j` of the adjacency. -/
def aBlk (j : ℕ) : Memref sig .tc .hbm S1x512x4096 .f32 :=
  adjM.slice (Rect.unit (s := S4x4096x4096) (offB j) S1x512x4096.size (offB_inb_a j)) (fun _ => rfl)
/-- Batch `g` of the annotations. -/
def nBlk (g : ℕ) : Memref sig .tc .hbm S1x4096x32 .f32 :=
  annM.slice (Rect.unit (s := S4x4096x32) (offG g) S1x4096x32.size (offG_inb g)) (fun _ => rfl)
/-- Block `j` of the annotations. -/
def hBlk (j : ℕ) : Memref sig .tc .hbm S1x512x32 .f32 :=
  annM.slice (Rect.unit (s := S4x4096x32) (offB j) S1x512x32.size (offB_inb_h j)) (fun _ => rfl)
/-- Block `j` of the result. -/
def oBlk (j : ℕ) : Memref sig .tc .hbm S1x512x32 .f32 :=
  resM.slice (Rect.unit (s := S4x4096x32) (offB j) S1x512x32.size (offB_inb_h j)) (fun _ => rfl)

/-- The cell of the adjacency's fetch of block `j`. -/
def aSem (j : ℕ) : DmaSem sig := ((cc0_scoped1.slice (Rect.unit (s := S4) (cell4 j) S1.size (cell4_inb j))).squeeze S_ squeezes_S1_S_).sem
/-- The cell of the fetch of batch `g`. -/
def nSem (j : ℕ) : DmaSem sig := ((cc0_scoped3.slice (Rect.unit (s := S2) (cell2 j) S1.size (cell2_inb j))).squeeze S_ squeezes_S1_S_).sem
/-- The cell of the fetch of block `j` of the annotations. -/
def hSem (j : ℕ) : DmaSem sig := ((cc0_scoped5.slice (Rect.unit (s := S2) (cell2 j) S1.size (cell2_inb j))).squeeze S_ squeezes_S1_S_).sem
/-- The cell of the copy out of block `j`. -/
def oSem (j : ℕ) : DmaSem sig := ((cc0_scoped7.slice (Rect.unit (s := S2) (cell2 j) S1.size (cell2_inb j))).squeeze S_ squeezes_S1_S_).sem

/-- A slice of the adjacency ring at slot `j`'s offsets is slot `j`, however the offsets are spelt. -/
theorem aSlot_eq {off : Fin 4 → ℕ} {j : ℕ} (h : off = off4 j) (hin : ∀ a, off a + S1x1x512x4096.size a ≤ S4x1x512x4096.size a) :
    (aR.slice (Rect.unit (s := S4x1x512x4096) off S1x1x512x4096.size hin) (fun _ => rfl)).squeeze S1x512x4096 squeezes_S1x1x512x4096_S1x512x4096 = aSlot j := by
  subst h; rfl
/-- A slice of the batch ring at slot `j`'s offsets is slot `j`, however the offsets are spelt. -/
theorem nSlot_eq {off : Fin 4 → ℕ} {j : ℕ} (h : off = off2 j) (hin : ∀ a, off a + S1x1x4096x32.size a ≤ S2x1x4096x32.size a) :
    (nR.slice (Rect.unit (s := S2x1x4096x32) off S1x1x4096x32.size hin) (fun _ => rfl)).squeeze S1x4096x32 squeezes_S1x1x4096x32_S1x4096x32 = nSlot j := by
  subst h; rfl
/-- A slice of the ring of own annotations at slot `j`'s offsets is slot `j`, however the offsets are spelt. -/
theorem hSlot_eq {off : Fin 4 → ℕ} {j : ℕ} (h : off = off2 j) (hin : ∀ a, off a + S1x1x512x32.size a ≤ S2x1x512x32.size a) :
    (hR.slice (Rect.unit (s := S2x1x512x32) off S1x1x512x32.size hin) (fun _ => rfl)).squeeze S1x512x32 squeezes_S1x1x512x32_S1x512x32 = hSlot j := by
  subst h; rfl
/-- A slice of the result ring at slot `j`'s offsets is slot `j`, however the offsets are spelt. -/
theorem oSlot_eq {off : Fin 4 → ℕ} {j : ℕ} (h : off = off2 j) (hin : ∀ a, off a + S1x1x512x32.size a ≤ S2x1x512x32.size a) :
    (oR.slice (Rect.unit (s := S2x1x512x32) off S1x1x512x32.size hin) (fun _ => rfl)).squeeze S1x512x32 squeezes_S1x1x512x32_S1x512x32 = oSlot j := by
  subst h; rfl
/-- A slice of the adjacency at block `j`'s offsets is block `j`, however the offsets are spelt. -/
theorem aBlk_eq {off : Fin 3 → ℕ} {j : ℕ} (h : off = offB j) (hin : ∀ a, off a + S1x512x4096.size a ≤ S4x4096x4096.size a) :
    adjM.slice (Rect.unit (s := S4x4096x4096) off S1x512x4096.size hin) (fun _ => rfl) = aBlk j := by
  subst h; rfl
/-- A slice of the annotations at batch `j`'s offsets is batch `j`, however the offsets are spelt. -/
theorem nBlk_eq {off : Fin 3 → ℕ} {j : ℕ} (h : off = offG j) (hin : ∀ a, off a + S1x4096x32.size a ≤ S4x4096x32.size a) :
    annM.slice (Rect.unit (s := S4x4096x32) off S1x4096x32.size hin) (fun _ => rfl) = nBlk j := by
  subst h; rfl
/-- A slice of the annotations at block `j`'s offsets is block `j`, however the offsets are spelt. -/
theorem hBlk_eq {off : Fin 3 → ℕ} {j : ℕ} (h : off = offB j) (hin : ∀ a, off a + S1x512x32.size a ≤ S4x4096x32.size a) :
    annM.slice (Rect.unit (s := S4x4096x32) off S1x512x32.size hin) (fun _ => rfl) = hBlk j := by
  subst h; rfl
/-- A slice of the result at block `j`'s offsets is block `j`, however the offsets are spelt. -/
theorem oBlk_eq {off : Fin 3 → ℕ} {j : ℕ} (h : off = offB j) (hin : ∀ a, off a + S1x512x32.size a ≤ S4x4096x32.size a) :
    resM.slice (Rect.unit (s := S4x4096x32) off S1x512x32.size hin) (fun _ => rfl) = oBlk j := by
  subst h; rfl
/-- A semaphore of the adjacency ring at cell `j`'s offset is cell `j`, however the offset is spelt. -/
theorem aSem_eq {off : Fin 1 → ℕ} {j : ℕ} (h : off = cell4 j) (hin : ∀ a, off a + S1.size a ≤ S4.size a) :
    ((cc0_scoped1.slice (Rect.unit (s := S4) off S1.size hin)).squeeze S_ squeezes_S1_S_).sem = aSem j := by
  subst h; rfl
/-- A semaphore of the batch ring at cell `j`'s offset is cell `j`, however the offset is spelt. -/
theorem nSem_eq {off : Fin 1 → ℕ} {j : ℕ} (h : off = cell2 j) (hin : ∀ a, off a + S1.size a ≤ S2.size a) :
    ((cc0_scoped3.slice (Rect.unit (s := S2) off S1.size hin)).squeeze S_ squeezes_S1_S_).sem = nSem j := by
  subst h; rfl
/-- A semaphore of the ring of own annotations at cell `j`'s offset is cell `j`, however the offset is spelt. -/
theorem hSem_eq {off : Fin 1 → ℕ} {j : ℕ} (h : off = cell2 j) (hin : ∀ a, off a + S1.size a ≤ S2.size a) :
    ((cc0_scoped5.slice (Rect.unit (s := S2) off S1.size hin)).squeeze S_ squeezes_S1_S_).sem = hSem j := by
  subst h; rfl
/-- A semaphore of the result ring at cell `j`'s offset is cell `j`, however the offset is spelt. -/
theorem oSem_eq {off : Fin 1 → ℕ} {j : ℕ} (h : off = cell2 j) (hin : ∀ a, off a + S1.size a ≤ S2.size a) :
    ((cc0_scoped7.slice (Rect.unit (s := S2) off S1.size hin)).squeeze S_ squeezes_S1_S_).sem = oSem j := by
  subst h; rfl

/-- The slots go round: `aSlot` by four, the others by two. -/
theorem off4_add (j : ℕ) : off4 (j + 4) = off4 j := by unfold off4; rw [Nat.add_mod_right]
/-- Offsets into a ring of two come round after two. -/
theorem off2_add (j : ℕ) : off2 (j + 2) = off2 j := by unfold off2; rw [Nat.add_mod_right]
/-- Cells of four come round after four. -/
theorem cell4_add (j : ℕ) : cell4 (j + 4) = cell4 j := by unfold cell4; rw [Nat.add_mod_right]
/-- Cells of two come round after two. -/
theorem cell2_add (j : ℕ) : cell2 (j + 2) = cell2 j := by unfold cell2; rw [Nat.add_mod_right]
/-- The slots of the adjacency ring go round. -/
theorem aSlot_add (j : ℕ) : aSlot (j + 4) = aSlot j := aSlot_eq (off4_add j) _
/-- The slots of the batch ring go round. -/
theorem nSlot_add (j : ℕ) : nSlot (j + 2) = nSlot j := nSlot_eq (off2_add j) _
/-- The slots of the ring of own annotations go round. -/
theorem hSlot_add (j : ℕ) : hSlot (j + 2) = hSlot j := hSlot_eq (off2_add j) _
/-- The slots of the result ring go round. -/
theorem oSlot_add (j : ℕ) : oSlot (j + 2) = oSlot j := oSlot_eq (off2_add j) _
/-- The semaphores of the adjacency ring go round. -/
theorem aSem_add (j : ℕ) : aSem (j + 4) = aSem j := aSem_eq (cell4_add j) _
/-- The semaphores of the batch ring go round. -/
theorem nSem_add (j : ℕ) : nSem (j + 2) = nSem j := nSem_eq (cell2_add j) _
/-- The semaphores of the ring of own annotations go round. -/
theorem hSem_add (j : ℕ) : hSem (j + 2) = hSem j := hSem_eq (cell2_add j) _
/-- The semaphores of the result ring go round. -/
theorem oSem_add (j : ℕ) : oSem (j + 2) = oSem j := oSem_eq (cell2_add j) _

/-! ## The words carried before trip `k` -/

/-- A natural's word. -/
abbrev w (n : ℕ) : BitVec 32 := BitVec.ofNat 32 n
/-- The twelve words carried before trip `k`: the next adjacency block's number, this block's, the next one's batch and row
    block; the next batch's and this batch's number; the next and this block's number for the own annotations; this and the
    previous block's for the result; this block's batch and row block. -/
def words (k : ℕ) : BitVec 32 × BitVec 32 × BitVec 32 × BitVec 32 × BitVec 32 × BitVec 32 × BitVec 32 × BitVec 32 × BitVec 32 × BitVec 32 × BitVec 32 × BitVec 32 :=
  (w (min (k + 3) 32), w k, w (min (k + 2) 31 / 8), w (min (k + 2) 31 % 8), w (min (1 + k / 8) 4), w (k / 8), w (min (k + 1) 32), w k, w k, w (k - 1),
    w (k / 8 % 4), w (k % 8))

/-- The pipeline loop's trips. -/
abbrev TT := Fin k0_t1_loop.trips

/-- There are 32 of them, one to a block. -/
theorem trips_eq : k0_t1_loop.trips = 32 := by decide +kernel

/-- The offsets, slots and semaphores of trip `k`'s fetches, waits and copies are in range. -/
theorem chk7_ok : ∀ k : TT, k0_chk7 k (w k) (w (min (1 + k / 8) 4)) (w (k / 8)) (w (min (k + 1) 32)) (w k) (w k) (w (k - 1)) (w (k / 8 % 4)) (w (k % 8)) := by
  decide +kernel
/-- Trip `k`'s adjacency slot is in range. -/
theorem chk8_ok : ∀ k : TT, k0_chk8 (w k) := by decide +kernel
/-- Trip `k`'s batch slot is in range. -/
theorem chk9_ok : ∀ k : TT, k0_chk9 (w (k / 8)) := by decide +kernel
/-- Trip `k`'s slot of own annotations is in range. -/
theorem chk10_ok : ∀ k : TT, k0_chk10 (w k) := by decide +kernel
/-- Trip `k`'s result slot is in range. -/
theorem chk11_ok : ∀ k : TT, k0_chk11 (w k) := by decide +kernel
/-- Trip `k` asks for the next batch exactly when it is the last of its batch and not the last of all. -/
theorem cond4_iff : ∀ k : TT, (k0_cond4 k (w (k / 8 % 4)) (w (k % 8)) = 1#1) ↔ (k.val % 8 = 7 ∧ k.val < 31) := by decide +kernel
/-- Trip `k` asks for the next own annotations exactly when it is not the last. -/
theorem cond5_iff : ∀ k : TT, (k0_cond5 k (w (k / 8 % 4)) (w (k % 8)) = 1#1) ↔ (k.val < 31) := by decide +kernel
/-- Every trip waits for its adjacency block. -/
theorem cond6_ok : ∀ k : TT, (k0_cond6 k (w (k / 8 % 4)) (w (k % 8)) = 1#1) := by decide +kernel
/-- Trip `k` waits for a batch exactly when it is the first of its batch. -/
theorem cond7_iff : ∀ k : TT, (k0_cond7 k (w (k / 8 % 4)) (w (k % 8)) = 1#1) ↔ (k.val % 8 = 0) := by decide +kernel
/-- Every trip waits for its own annotations. -/
theorem cond8_ok : ∀ k : TT, (k0_cond8 k (w (k / 8 % 4)) (w (k % 8)) = 1#1) := by decide +kernel
/-- Every trip starts its result's copy out. -/
theorem cond13_ok : ∀ k : TT, (k0_cond13 k (w (k / 8 % 4)) (w (k % 8)) = 1#1) := by decide +kernel
/-- Trip `k` waits for the previous copy out exactly when there was one. -/
theorem cond17_iff : ∀ k : TT, (k0_cond17 k (w (k / 8 % 4)) (w (k % 8)) = 1#1) ↔ (0 < k.val) := by decide +kernel

/-- The next batch's semaphore. -/
theorem off16_eq : ∀ k : TT, k.val < 31 → k0_off16 (w (min (1 + k / 8) 4)) = cell2 (k / 8 + 1) := by decide +kernel
/-- The next batch's slot. -/
theorem off17_eq : ∀ k : TT, k.val < 31 → k0_off17 (w (min (1 + k / 8) 4)) = off2 (k / 8 + 1) := by decide +kernel
/-- The next batch's place in the annotations, when it is asked for. -/
theorem off18_eq : ∀ k : TT, k.val % 8 = 7 ∧ k.val < 31 → k0_off18 (w (k / 8 % 4)) (w (k % 8)) = offG (k / 8 + 1) := by decide +kernel
/-- The semaphore of the next own annotations. -/
theorem off19_eq : ∀ k : TT, k.val < 31 → k0_off19 (w (min (k + 1) 32)) = cell2 (k + 1) := by decide +kernel
/-- The slot of the next own annotations. -/
theorem off20_eq : ∀ k : TT, k.val < 31 → k0_off20 (w (min (k + 1) 32)) = off2 (k + 1) := by decide +kernel
/-- The place of the next own annotations in the array. -/
theorem off21_eq : ∀ k : TT, k.val < 31 → k0_off21 (w (k / 8 % 4)) (w (k % 8)) = offB (k + 1) := by decide +kernel
/-- The semaphore that the wait for trip `k`'s adjacency block names. -/
theorem off22_eq : ∀ k : TT, k0_off22 (w k) = cell4 k := by decide +kernel
/-- The slot that the wait for trip `k`'s adjacency block names. -/
theorem off23_eq : ∀ k : TT, k0_off23 (w k) = off4 k := by decide +kernel
/-- The semaphore that the wait for trip `k`'s batch names. -/
theorem off25_eq : ∀ k : TT, k0_off25 (w (k / 8)) = cell2 (k / 8) := by decide +kernel
/-- The slot that the wait for trip `k`'s batch names. -/
theorem off26_eq : ∀ k : TT, k0_off26 (w (k / 8)) = off2 (k / 8) := by decide +kernel
/-- The semaphore that the wait for trip `k`'s own annotations names. -/
theorem off28_eq : ∀ k : TT, k0_off28 (w k) = cell2 k := by decide +kernel
/-- The slot that the wait for trip `k`'s own annotations names. -/
theorem off29_eq : ∀ k : TT, k0_off29 (w k) = off2 k := by decide +kernel
/-- The adjacency slot that trip `k` computes from. -/
theorem off31_eq : ∀ k : TT, k0_off31 (w k) = off4 k := by decide +kernel
/-- The batch slot that trip `k` computes from. -/
theorem off32_eq : ∀ k : TT, k0_off32 (w (k / 8)) = off2 (k / 8) := by decide +kernel
/-- The slot of own annotations that trip `k` computes from. -/
theorem off33_eq : ∀ k : TT, k0_off33 (w k) = off2 k := by decide +kernel
/-- The slot of trip `k`'s result. -/
theorem off34_eq : ∀ k : TT, k0_off34 (w k) = off2 k := by decide +kernel
/-- The semaphore of trip `k`'s copy out. -/
theorem off35_eq : ∀ k : TT, k0_off35 (w k) = cell2 k := by decide +kernel
/-- The place of trip `k`'s copy out in the result. -/
theorem off36_eq : ∀ k : TT, k0_off36 (w (k / 8 % 4)) (w (k % 8)) = offB k := by decide +kernel
/-- The slot that trip `k`'s copy out reads. -/
theorem off37_eq : ∀ k : TT, k0_off37 (w k) = off2 k := by decide +kernel
/-- The semaphore that the wait for the previous copy out names. -/
theorem off38_eq : ∀ k : TT, k0_off38 (w (k - 1)) = cell2 (k - 1) := by decide +kernel
/-- The place in the result that the wait for the previous copy out names. -/
theorem off39_eq : ∀ k : TT, 0 < k.val → k0_off39 (w (k / 8 % 4)) (w (k % 8)) = offB (k - 1) := by decide +kernel

/-- The last wait's slot and semaphore are in range. -/
theorem chk12_ok : k0_chk12 (w 31) := by decide +kernel
/-- The last wait's place in the result is in range. -/
theorem chk13_ok : k0_chk13 (w 0) (w 0) := by decide +kernel
/-- The semaphore that the last wait names. -/
theorem off41_eq : k0_off41 (w 31) = cell2 31 := by decide +kernel
/-- The place in the result that the last wait names. -/
theorem off42_eq : k0_off42 (w 0) (w 0) = offB 31 := by decide +kernel

/-- The semaphore of the first adjacency fetch. -/
theorem off1_eq : k0_off1 = cell4 0 := by decide +kernel
/-- The slot of the first adjacency fetch. -/
theorem off2_eq : k0_off2 = off4 0 := by decide +kernel
/-- The place of the first adjacency fetch in the array. -/
theorem off3_eq : k0_off3 = offB 0 := by decide +kernel
/-- The semaphore of the first batch's fetch, and of the first own annotations' in their ring. -/
theorem off4_eq : k0_off4 = cell2 0 := by decide +kernel
/-- The slot of the first batch's fetch. -/
theorem off5_eq : k0_off5 = off2 0 := by decide +kernel
/-- The slot of the first own annotations' fetch. -/
theorem off6_eq : k0_off6 = off2 0 := by decide +kernel

end Cert.Proof.K

end
-- ==== Proof.State.lean ====
/-
  What is held of each ring of the kernel: the slot of a block free, in flight, or holding its block; and the rotation of
  the slots.
-/
module

public import proofs.«01_k».proof.Proof.Names

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (c : Dev nD)

/-! ## What is held of each ring -/

/-- The share of the array read by the fetches of cell `i`. -/
abbrev qT (i : ℕ) : PosShare TreeShare := Transfers.shareTokN fullShare i

section In

variable (A : Buf (Elt F) ((c : Thread nD τ).loc main_arg0)) (N : Buf (Elt F) ((c : Thread nD τ).loc main_arg1))

/-- The adjacency ring's slot of block `j`, free; in flight with block `j`; holding block `j`. -/
def FA (j : ℕ) : sProp 𝕄 := InFree c (aBlk j) (aSlot j) (aSem j) (qT (j % 4)) A
/-- Adjacency block `j` in flight to its slot. -/
def GA (j : ℕ) : sProp 𝕄 := InFly c (aBlk j) (aSlot j) (aSem j) (qT (j % 4)) A
/-- Adjacency block `j` landed in its slot. -/
def LA (j : ℕ) : sProp 𝕄 := InLand c (aBlk j) (aSlot j) (aSem j) (qT (j % 4)) A
/-- The slot of block `j` once its fetch was due: in flight, or free when there is no such block. -/
def SA (j : ℕ) : sProp 𝕄 := if j < 32 then GA c A j else FA c A j

/-- The batch ring's slot of batch `g`, free; in flight; holding the batch. -/
def FN (j : ℕ) : sProp 𝕄 := InFree c (nBlk j) (nSlot j) (nSem j) (qT (j % 2)) N
/-- Batch `j` in flight to its slot. -/
def GN (j : ℕ) : sProp 𝕄 := InFly c (nBlk j) (nSlot j) (nSem j) (qT (j % 2)) N
/-- Batch `j` landed in its slot. -/
def LN (j : ℕ) : sProp 𝕄 := InLand c (nBlk j) (nSlot j) (nSem j) (qT (j % 2)) N
/-- The slot of batch `g` once its fetch was due. -/
def SN (j : ℕ) : sProp 𝕄 := if j < 4 then GN c N j else FN c N j

/-- The own annotations' ring's slot of block `j`, free; in flight; holding the block. -/
def FH (j : ℕ) : sProp 𝕄 := InFree c (hBlk j) (hSlot j) (hSem j) (qT (2 + j % 2)) N
/-- Block `j`'s own annotations in flight to their slot. -/
def GH (j : ℕ) : sProp 𝕄 := InFly c (hBlk j) (hSlot j) (hSem j) (qT (2 + j % 2)) N
/-- Block `j`'s own annotations landed in their slot. -/
def LH (j : ℕ) : sProp 𝕄 := InLand c (hBlk j) (hSlot j) (hSem j) (qT (2 + j % 2)) N
/-- The slot of block `j` once its fetch was due. -/
def SH (j : ℕ) : sProp 𝕄 := if j < 32 then GH c N j else FH c N j

/-- Four blocks on, the adjacency ring's slot is the same. -/
theorem FA_add (j : ℕ) : FA c A (j + 4) = (FA c A j : sProp 𝕄) := by
  unfold FA InFree
  rw [aSlot_add, aSem_add, Nat.add_mod_right]
  rfl

/-- Two batches on, the batch ring's slot is the same. -/
theorem FN_add (j : ℕ) : FN c N (j + 2) = (FN c N j : sProp 𝕄) := by
  unfold FN InFree
  rw [nSlot_add, nSem_add, Nat.add_mod_right]
  rfl

/-- Two blocks on, the own annotations' ring's slot is the same. -/
theorem FH_add (j : ℕ) : FH c N (j + 2) = (FH c N j : sProp 𝕄) := by
  unfold FH InFree
  rw [hSlot_add, hSem_add, Nat.add_mod_right]
  rfl

/-- A landed slot, read and done with, is free for the block that comes round to it. -/
theorem LA_FA (j : ℕ) : LA c A j ⊢ (FA c A (j + 4) : sProp 𝕄) := by rw [FA_add]; exact land_free c _ _ _ _ _
/-- The same for a batch. -/
theorem LN_FN (j : ℕ) : LN c N j ⊢ (FN c N (j + 2) : sProp 𝕄) := by rw [FN_add]; exact land_free c _ _ _ _ _
/-- The same for a block's own annotations. -/
theorem LH_FH (j : ℕ) : LH c N j ⊢ (FH c N (j + 2) : sProp 𝕄) := by rw [FH_add]; exact land_free c _ _ _ _ _

end In

section Out

/-- The result ring's slot of block `j`, free. -/
def FO (j : ℕ) : sProp 𝕄 :=
  iprop((∃ d : Buf (Elt F) ((oSlot j).view.loc (c : Thread nD τ)), ((oSlot j).view.loc (c : Thread nD τ) ↦[(oSlot j).view.set]{fullShare} d))
    ∗ semVal ((c : Thread nD τ), SemLoc.dma (oSem j)) 0)

variable (P : ℕ → S1x512x32.Idx → Elt F .f32)

/-- The result ring's slot of block `j`, its copy out in flight: the slot holds the block's payload. -/
def GO (j : ℕ) : sProp 𝕄 :=
  iprop(∃ (d : Buf (Elt F) ((oSlot j).view.loc (c : Thread nD τ))) (fd : Buf (Elt F) ((oBlk j).view.loc (c : Thread nD τ))),
    ⌜(oSlot j).view.read (Elt F) d = P j⌝ ∗ FL c (oSlot j) (oBlk j) (oSem j) fullShare d fd)

/-- Block `j` of the result at some contents. -/
def RO (j : ℕ) : sProp 𝕄 :=
  iprop(∃ d : Buf (Elt F) ((oBlk j).view.loc (c : Thread nD τ)), ((oBlk j).view.loc (c : Thread nD τ) ↦[(oBlk j).view.set]{fullShare} d))

/-- Block `j` of the result holding the block's payload. -/
def DO (j : ℕ) : sProp 𝕄 :=
  iprop(∃ d : Buf (Elt F) ((oBlk j).view.loc (c : Thread nD τ)), ((oBlk j).view.loc (c : Thread nD τ) ↦[(oBlk j).view.set]{fullShare} d)
    ∗ ⌜(oBlk j).view.read (Elt F) d = P j⌝)

/-- Two blocks on, the result ring's slot is the same. -/
theorem FO_add (j : ℕ) : FO c (j + 2) = (FO c j : sProp 𝕄) := by
  unfold FO
  rw [oSlot_add, oSem_add]

/-- Waiting for the copy out of block `j`: the block holds its payload, the slot is free for block `j + 2`. -/
theorem o_wait {bd : Option ℕ} {α : Type} (j : ℕ) {srcw : Memref sig .tc .vmem S1x512x32 .f32} {dstw : Memref sig .tc .hbm S1x512x32 .f32} {sem : DmaSem sig}
    (hd : dstw = oBlk j) (hm : sem = oSem j)
    {hsrc : srcw.view.WordExact} {hdst : dstw.view.WordExact}
    {k : PUnit → Prog (TpuEff nD τ sig (Elt F) (Λ₀ F) .tc) α} {Q : α → sProp 𝕄} :
    iprop(GO c P j ∗ Ow c) ⊢ iprop((iprop(DO c P j ∗ FO c (j + 2) ∗ Ow c) -∗ wp frame (wpE (defs₀ (F := F)) 𝒱₀ (c : Thread nD τ) bd) Set.univ (k ⟨⟩) Q)
      -∗ wp frame (wpE (defs₀ (F := F)) 𝒱₀ (c : Thread nD τ) bd) Set.univ (.op (.waitDma2 sem srcw dstw hsrc hdst) k) Q) := by
  unfold GO
  iintro ⟨⟨%d, %fd, %hr, Hf⟩, HO⟩ Hk
  iapply (out_wait c (oSlot j) (oBlk j) (oSem j) fullShare d hd hm fd) $$ [Hf HO]
  · isplitl [Hf]
    · iexact Hf
    · iexact HO
  iintro ⟨⟨Hd, Hq⟩, Hs, HO⟩
  iapply Hk
  rw [FO_add]
  unfold DO FO
  isplitl [Hd]
  · iexists _
    isplitl [Hd]
    · iexact Hd
    · ipureintro
      exact (View.read_write_univ _ _).trans hr
  isplitr [HO]
  · isplitl [Hq]
    · iexists d; iexact Hq
    · iexact Hs
  · iexact HO

/-- Starting the copy out of block `j` from a slot that holds its payload. -/
theorem o_start {bd : Option ℕ} {α : Type} (j : ℕ) {src : Memref sig .tc .vmem S1x512x32 .f32} {dst : Memref sig .tc .hbm S1x512x32 .f32} {sem : SemLoc sig}
    (hs : src = oSlot j) (hd : dst = oBlk j) (hm : sem = .dma (oSem j))
    {hsrc : src.view.WordExact} {hdst : dst.view.WordExact} {hsem : (DmaTarget.here dst : DmaTarget nD τ sig (Proc.tc : Proc τ) .hbm S1x512x32 .f32).Typed .vmem sem}
    {k : PUnit → Prog (TpuEff nD τ sig (Elt F) (Λ₀ F) .tc) α} {Q : α → sProp 𝕄} (d : Buf (Elt F) ((oSlot j).view.loc (c : Thread nD τ)))
    (hr : (oSlot j).view.read (Elt F) d = P j) :
    iprop(((oSlot j).view.loc (c : Thread nD τ) ↦[(oSlot j).view.set]{fullShare} d) ∗ RO c j ∗ semVal ((c : Thread nD τ), SemLoc.dma (oSem j)) 0)
      ⊢ iprop((GO c P j -∗ wp frame (wpE (defs₀ (F := F)) 𝒱₀ (c : Thread nD τ) bd) Set.univ (k ⟨⟩) Q)
      -∗ wp frame (wpE (defs₀ (F := F)) 𝒱₀ (c : Thread nD τ) bd) Set.univ (.op (.enqueueDma src (.here dst) sem hsrc hdst hsem) k) Q) := by
  unfold GO RO
  iintro ⟨Hd, ⟨%fd, Hb⟩, Hs⟩ Hk
  iapply (out_start c (oSlot j) (oBlk j) (oSem j) fullShare d hs hd hm (by decide) fd) $$ [Hd Hb Hs]
  · isplitl [Hd]
    · iexact Hd
    isplitl [Hb]
    · iexact Hb
    · iexact Hs
  iintro Hf
  iapply Hk
  iexists d
  iexists fd
  isplitr
  · ipureintro; exact hr
  · iexact Hf

end Out

end Cert.Proof.K

end
-- ==== Proof.Whiles.lean ====
/-
  The three loops that fetch adjacency blocks ahead: each runs at most one trip, which starts one fetch into a free slot.
-/
module

public import proofs.«01_k».proof.Proof.State

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (c : Dev nD) (A : Buf (Elt F) ((c : Thread nD τ).loc main_arg0))

/-! ## The test and the step, as words -/

/-- The test of an ahead-fetching loop: the next block's number below the bound, its indices inside the array. -/
abbrev tst (b x y n : BitVec 32) : BitVec 1 :=
  Scalar.andi (Scalar.andi 1#1 (Scalar.cmpi .ult n b)) (Scalar.andi (Scalar.andi 1#1 (Scalar.cmpi .slt x 4#32)) (Scalar.cmpi .slt y 8#32))
/-- The row block after `y`. -/
abbrev nx1 (y : BitVec 32) : BitVec 32 :=
  Scalar.select (Scalar.cmpi .eq (Scalar.select 1#1 (Scalar.addi y 1#32) y) 8#32) 0#32 (Scalar.select 1#1 (Scalar.addi y 1#32) y)
/-- The batch of the block after `x`, `y`. -/
abbrev nx0 (x y : BitVec 32) : BitVec 32 :=
  Scalar.select 0#1 0#32 (Scalar.select (Scalar.cmpi .eq (Scalar.select 1#1 (Scalar.addi y 1#32) y) 8#32) (Scalar.addi x 1#32) x)
/-- The number after a fetch: one more where the block differs from the one before. -/
abbrev nn (p r x y n : BitVec 32) : BitVec 32 :=
  Scalar.addi n (Scalar.extui (Scalar.ori (Scalar.cmpi .ne (Scalar.addi p 0#32) (Scalar.addi x 0#32)) (Scalar.cmpi .ne (Scalar.addi r 0#32) (Scalar.addi y 0#32))))
/-- The first ahead-fetching loop's bound. -/
abbrev bnd1 : BitVec 32 :=
  Scalar.select (Scalar.cmpi .ult (Scalar.addi 0#32 4#32) (Scalar.addi (Scalar.addi 0#32 1#32) 1#32)) (Scalar.addi 0#32 4#32) (Scalar.addi (Scalar.addi 0#32 1#32) 1#32)

/-! ## One trip of each loop -/

/-- Loop 1 with its test false hands back its words. -/
theorem while1_exit {p r x y n : BitVec 32} (v : ℕ) (ht : ¬ tst bnd1 x y n = 1#1)
    {Q : BitVec 32 × BitVec 32 × BitVec 32 × BitVec 32 × BitVec 32 → sProp 𝕄} :
    Q (p, r, x, y, n) ⊢ wp frame (wpE (defs₀ (F := F)) 𝒱₀ (c : Thread nD τ) (some v)) Set.univ
      (defs₀ (F := F) .tc (1 : (Λ₀ F).Label) ⟨cc0_scoped1, aR, Memref.isWhole_whole _, adjM, Memref.isWhole_whole _, p, r, x, y, n⟩) Q := by
  show _ ⊢ wp frame (wpE (defs₀ (F := F)) 𝒱₀ (c : Thread nD τ) (some v)) Set.univ (cc0_while1 cc0_scoped1 aR (Memref.isWhole_whole _) adjM (Memref.isWhole_whole _) p r x y n) Q
  rw [cc0_while1_eq_skeleton]
  unfold cc0_while1_skel
  simp only [if_neg ht, Prog.pure_eq_ret]
  rw [wp_ret]
  iintro H
  imodintro
  iexact H

/-- Loop 1 with its test true once: the block's fetch starts, and the loop ends. -/
theorem while1_one {p r x y n : BitVec 32} (j : ℕ) (ht : tst bnd1 x y n = 1#1)
    (hB : k0_chk2 p r x y) (hA : k0_chk1 p r x y n) (hc : k0_cond1 p r x y = 1#1)
    (hs : k0_off7 n = cell4 j) (hd : k0_off8 n = off4 j) (hb : k0_off9 x y = offB j)
    (hx : ¬ tst bnd1 (nx0 x y) (nx1 y) (nn p r x y n) = 1#1)
    {Q : BitVec 32 × BitVec 32 × BitVec 32 × BitVec 32 × BitVec 32 → sProp 𝕄} :
    iprop(FA c A j ∗ (GA c A j -∗ Q (x, y, nx0 x y, nx1 y, nn p r x y n))) ⊢ wp frame (wpE (defs₀ (F := F)) 𝒱₀ (c : Thread nD τ) (some 1)) Set.univ
      (defs₀ (F := F) .tc (1 : (Λ₀ F).Label) ⟨cc0_scoped1, aR, Memref.isWhole_whole _, adjM, Memref.isWhole_whole _, p, r, x, y, n⟩) Q := by
  show _ ⊢ wp frame (wpE (defs₀ (F := F)) 𝒱₀ (c : Thread nD τ) (some 1)) Set.univ (cc0_while1 cc0_scoped1 aR (Memref.isWhole_whole _) adjM (Memref.isWhole_whole _) p r x y n) Q
  rw [cc0_while1_eq_skeleton]
  unfold cc0_while1_skel
  simp only [if_pos ht, dif_pos hc, Prog.lift, Prog.bind_op, Prog.bind_ret, Prog.pure_eq_ret]
  iintro ⟨HF, HQ⟩
  iapply (wp_assume 𝒱₀ (c : Thread nD τ) (some 1) Set.univ hB)
  iapply (wp_assume 𝒱₀ (c : Thread nD τ) (some 1) Set.univ hA)
  unfold FA
  iapply (in_start c (aBlk j) (aSlot j) (aSem j) (qT (j % 4)) A (aBlk_eq hb _) (aSlot_eq hd _) (congrArg SemLoc.dma (aSem_eq hs _)) (by decide)) $$ HF
  iintro HF
  iapply (wp_call 𝒱₀ (c : Thread nD τ) (some 1) Set.univ 0 (fun u hu => by cases hu; exact Nat.zero_lt_one))
  iapply (while1_exit c 0 hx)
  rw [wp_ret]
  imodintro
  iapply HQ
  unfold GA
  iexact HF

/-- Loop 2 with its test false hands back its words. -/
theorem while2_exit (b : BitVec 32) {p r x y n : BitVec 32} (v : ℕ) (ht : ¬ tst b x y n = 1#1)
    {Q : BitVec 32 × BitVec 32 × BitVec 32 × BitVec 32 × BitVec 32 → sProp 𝕄} :
    Q (p, r, x, y, n) ⊢ wp frame (wpE (defs₀ (F := F)) 𝒱₀ (c : Thread nD τ) (some v)) Set.univ
      (defs₀ (F := F) .tc (2 : (Λ₀ F).Label) ⟨b, cc0_scoped1, aR, Memref.isWhole_whole _, adjM, Memref.isWhole_whole _, p, r, x, y, n⟩) Q := by
  show _ ⊢ wp frame (wpE (defs₀ (F := F)) 𝒱₀ (c : Thread nD τ) (some v)) Set.univ (cc0_while2 b cc0_scoped1 aR (Memref.isWhole_whole _) adjM (Memref.isWhole_whole _) p r x y n) Q
  rw [cc0_while2_eq_skeleton]
  unfold cc0_while2_skel
  simp only [if_neg ht, Prog.pure_eq_ret]
  rw [wp_ret]
  iintro H
  imodintro
  iexact H

/-- Loop 2 with its test true once: the block's fetch starts, and the loop ends. -/
theorem while2_one (b : BitVec 32) {p r x y n : BitVec 32} (j : ℕ) (ht : tst b x y n = 1#1)
    (hB : k0_chk4 p r x y) (hA : k0_chk3 p r x y n) (hc : k0_cond2 p r x y = 1#1)
    (hs : k0_off10 n = cell4 j) (hd : k0_off11 n = off4 j) (hb : k0_off12 x y = offB j)
    (hx : ¬ tst b (nx0 x y) (nx1 y) (nn p r x y n) = 1#1)
    {Q : BitVec 32 × BitVec 32 × BitVec 32 × BitVec 32 × BitVec 32 → sProp 𝕄} :
    iprop(FA c A j ∗ (GA c A j -∗ Q (x, y, nx0 x y, nx1 y, nn p r x y n))) ⊢ wp frame (wpE (defs₀ (F := F)) 𝒱₀ (c : Thread nD τ) (some 1)) Set.univ
      (defs₀ (F := F) .tc (2 : (Λ₀ F).Label) ⟨b, cc0_scoped1, aR, Memref.isWhole_whole _, adjM, Memref.isWhole_whole _, p, r, x, y, n⟩) Q := by
  show _ ⊢ wp frame (wpE (defs₀ (F := F)) 𝒱₀ (c : Thread nD τ) (some 1)) Set.univ (cc0_while2 b cc0_scoped1 aR (Memref.isWhole_whole _) adjM (Memref.isWhole_whole _) p r x y n) Q
  rw [cc0_while2_eq_skeleton]
  unfold cc0_while2_skel
  simp only [if_pos ht, dif_pos hc, Prog.lift, Prog.bind_op, Prog.bind_ret, Prog.pure_eq_ret]
  iintro ⟨HF, HQ⟩
  iapply (wp_assume 𝒱₀ (c : Thread nD τ) (some 1) Set.univ hB)
  iapply (wp_assume 𝒱₀ (c : Thread nD τ) (some 1) Set.univ hA)
  unfold FA
  iapply (in_start c (aBlk j) (aSlot j) (aSem j) (qT (j % 4)) A (aBlk_eq hb _) (aSlot_eq hd _) (congrArg SemLoc.dma (aSem_eq hs _)) (by decide)) $$ HF
  iintro HF
  iapply (wp_call 𝒱₀ (c : Thread nD τ) (some 1) Set.univ 0 (fun u hu => by cases hu; exact Nat.zero_lt_one))
  iapply (while2_exit c b 0 hx)
  rw [wp_ret]
  imodintro
  iapply HQ
  unfold GA
  iexact HF

/-- Loop 3 with its test false hands back its words. -/
theorem while3_exit (k : TT) (b : BitVec 32) {p r x y n : BitVec 32} (v : ℕ) (ht : ¬ tst b x y n = 1#1)
    {Q : BitVec 32 × BitVec 32 × BitVec 32 × BitVec 32 × BitVec 32 → sProp 𝕄} :
    Q (p, r, x, y, n) ⊢ wp frame (wpE (defs₀ (F := F)) 𝒱₀ (c : Thread nD τ) (some v)) Set.univ
      (defs₀ (F := F) .tc (3 : (Λ₀ F).Label) ⟨k, b, cc0_scoped1, aR, Memref.isWhole_whole _, adjM, Memref.isWhole_whole _, p, r, x, y, n⟩) Q := by
  show _ ⊢ wp frame (wpE (defs₀ (F := F)) 𝒱₀ (c : Thread nD τ) (some v)) Set.univ (cc0_while3 k b cc0_scoped1 aR (Memref.isWhole_whole _) adjM (Memref.isWhole_whole _) p r x y n) Q
  rw [cc0_while3_eq_skeleton]
  unfold cc0_while3_skel
  simp only [if_neg ht, Prog.pure_eq_ret]
  rw [wp_ret]
  iintro H
  imodintro
  iexact H

/-- Loop 3 with its test true once: the block's fetch starts, and the loop ends. -/
theorem while3_one (k : TT) (b : BitVec 32) {p r x y n : BitVec 32} (j : ℕ) (ht : tst b x y n = 1#1)
    (hB : k0_chk6 p r x y) (hA : k0_chk5 p r x y n) (hc : k0_cond3 p r x y = 1#1)
    (hs : k0_off13 n = cell4 j) (hd : k0_off14 n = off4 j) (hb : k0_off15 x y = offB j)
    (hx : ¬ tst b (nx0 x y) (nx1 y) (nn p r x y n) = 1#1)
    {Q : BitVec 32 × BitVec 32 × BitVec 32 × BitVec 32 × BitVec 32 → sProp 𝕄} :
    iprop(FA c A j ∗ (GA c A j -∗ Q (x, y, nx0 x y, nx1 y, nn p r x y n))) ⊢ wp frame (wpE (defs₀ (F := F)) 𝒱₀ (c : Thread nD τ) (some 1)) Set.univ
      (defs₀ (F := F) .tc (3 : (Λ₀ F).Label) ⟨k, b, cc0_scoped1, aR, Memref.isWhole_whole _, adjM, Memref.isWhole_whole _, p, r, x, y, n⟩) Q := by
  show _ ⊢ wp frame (wpE (defs₀ (F := F)) 𝒱₀ (c : Thread nD τ) (some 1)) Set.univ (cc0_while3 k b cc0_scoped1 aR (Memref.isWhole_whole _) adjM (Memref.isWhole_whole _) p r x y n) Q
  rw [cc0_while3_eq_skeleton]
  unfold cc0_while3_skel
  simp only [if_pos ht, dif_pos hc, Prog.lift, Prog.bind_op, Prog.bind_ret, Prog.pure_eq_ret]
  iintro ⟨HF, HQ⟩
  iapply (wp_assume 𝒱₀ (c : Thread nD τ) (some 1) Set.univ hB)
  iapply (wp_assume 𝒱₀ (c : Thread nD τ) (some 1) Set.univ hA)
  unfold FA
  iapply (in_start c (aBlk j) (aSlot j) (aSem j) (qT (j % 4)) A (aBlk_eq hb _) (aSlot_eq hd _) (congrArg SemLoc.dma (aSem_eq hs _)) (by decide)) $$ HF
  iintro HF
  iapply (wp_call 𝒱₀ (c : Thread nD τ) (some 1) Set.univ 0 (fun u hu => by cases hu; exact Nat.zero_lt_one))
  iapply (while3_exit c k b 0 hx)
  rw [wp_ret]
  imodintro
  iapply HQ
  unfold GA
  iexact HF

end Cert.Proof.K

end
-- ==== Proof.Ahead.lean ====
/-
  The ahead-fetching loops at the words their entries carry: before the trips blocks 1 and 2 are asked for, in trip `k`
  block `k + 3`.
-/
module

public import proofs.«01_k».proof.Proof.Whiles

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (c : Dev nD) (A : Buf (Elt F) ((c : Thread nD τ).loc main_arg0))

/-! ## The words at the loops' entries -/

/-- The batch and row block of the last adjacency block asked for before trip `k`. -/
abbrev pa (k : ℕ) : BitVec 32 := w (min (k + 2) 31 / 8)
/-- The row block of the last adjacency block asked for before trip `k`'s own request. -/
abbrev pb (k : ℕ) : BitVec 32 := w (min (k + 2) 31 % 8)

/-- The next batch after that block is block `k + 3`'s, while there is one. -/
theorem nx0_eq : ∀ k : TT, k.val < 29 → nx0 (pa k) (pb k) = w ((k + 3) / 8) := by decide +kernel
/-- The next row block after that block is block `k + 3`'s, while there is one. -/
theorem nx1_eq : ∀ k : TT, k.val < 29 → nx1 (pb k) = w ((k + 3) % 8) := by decide +kernel
/-- In each of the first 29 trips the ahead-fetching loop's test holds at its entry. -/
theorem tst3_pos : ∀ k : TT, k.val < 29 → tst (Scalar.addi (w k) 4#32) (nx0 (pa k) (pb k)) (nx1 (pb k)) (w (min (k + 3) 32)) = 1#1 := by decide +kernel
/-- In the last three trips the test fails at its entry: every block has been asked for. -/
theorem tst3_neg : ∀ k : TT, ¬ k.val < 29 → ¬ tst (Scalar.addi (w k) 4#32) (nx0 (pa k) (pb k)) (nx1 (pb k)) (w (min (k + 3) 32)) = 1#1 := by decide +kernel
/-- After one round of the loop its test fails. -/
theorem tst3_end : ∀ k : TT, k.val < 29 → ¬ tst (Scalar.addi (w k) 4#32) (nx0 (nx0 (pa k) (pb k)) (nx1 (pb k))) (nx1 (nx1 (pb k)))
    (nn (pa k) (pb k) (nx0 (pa k) (pb k)) (nx1 (pb k)) (w (min (k + 3) 32))) = 1#1 := by decide +kernel
/-- One round of the loop advances the count of requested blocks by one. -/
theorem nn3_eq : ∀ k : TT, k.val < 29 → nn (pa k) (pb k) (nx0 (pa k) (pb k)) (nx1 (pb k)) (w (min (k + 3) 32)) = w (min (k + 4) 32) := by decide +kernel
/-- The request's offsets into the adjacency are in range. -/
theorem chk6_ok : ∀ k : TT, k.val < 29 → k0_chk6 (pa k) (pb k) (nx0 (pa k) (pb k)) (nx1 (pb k)) := by decide +kernel
/-- The request's slot and semaphore are in range. -/
theorem chk5_ok : ∀ k : TT, k.val < 29 → k0_chk5 (pa k) (pb k) (nx0 (pa k) (pb k)) (nx1 (pb k)) (w (min (k + 3) 32)) := by decide +kernel
/-- The round does start a fetch. -/
theorem cond3_ok : ∀ k : TT, k.val < 29 → k0_cond3 (pa k) (pb k) (nx0 (pa k) (pb k)) (nx1 (pb k)) = 1#1 := by decide +kernel
/-- The fetch signals block `k + 3`'s semaphore. -/
theorem off13_eq : ∀ k : TT, k.val < 29 → k0_off13 (w (min (k + 3) 32)) = cell4 (k + 3) := by decide +kernel
/-- The fetch fills block `k + 3`'s slot. -/
theorem off14_eq : ∀ k : TT, k.val < 29 → k0_off14 (w (min (k + 3) 32)) = off4 (k + 3) := by decide +kernel
/-- The fetch reads block `k + 3` of the adjacency. -/
theorem off15_eq : ∀ k : TT, k.val < 29 → k0_off15 (nx0 (pa k) (pb k)) (nx1 (pb k)) = offB (k + 3) := by decide +kernel

/-- Before the last three trips the block asked for is `k + 3` itself. -/
theorem last_lt : ∀ k : TT, k.val < 29 → min (k.val + 3) 31 = k.val + 3 := by intro k h; omega

/-- The trip's ahead-fetching loop: the fetch of block `k + 3` starts if there is such a block, and the words go on. -/
theorem while3_wp (k : TT) {Q : BitVec 32 × BitVec 32 × BitVec 32 × BitVec 32 × BitVec 32 → sProp 𝕄} :
    iprop(FA c A (k + 3) ∗ (∀ (x : BitVec 32) (y : BitVec 32), SA c A (k + 3) -∗ Q (w (min (k.val + 3) 31 / 8), w (min (k.val + 3) 31 % 8), x, y, w (min (k.val + 4) 32))))
      ⊢ wp frame (wpE (defs₀ (F := F)) 𝒱₀ (c : Thread nD τ) (some 1)) Set.univ
      (defs₀ (F := F) .tc (3 : (Λ₀ F).Label) ⟨k, Scalar.addi (w k) 4#32, cc0_scoped1, aR, Memref.isWhole_whole _, adjM, Memref.isWhole_whole _,
        pa k, pb k, nx0 (pa k) (pb k), nx1 (pb k), w (min (k + 3) 32)⟩) Q := by
  iintro ⟨HF, HQ⟩
  unfold SA
  by_cases h : k.val < 29
  · rw [if_pos (show k.val + 3 < 32 by omega)]
    iapply (while3_one c A k _ (k.val + 3) (tst3_pos k h) (chk6_ok k h) (chk5_ok k h) (cond3_ok k h) (off13_eq k h) (off14_eq k h) (off15_eq k h) (tst3_end k h))
    isplitl [HF]
    · iexact HF
    iintro HG
    rw [nn3_eq k h, last_lt k h, ← nx0_eq k h, ← nx1_eq k h]
    iapply HQ
    iexact HG
  · rw [if_neg (show ¬ k.val + 3 < 32 by omega)]
    iapply (while3_exit c k _ 1 (tst3_neg k h))
    rw [show pa k.val = w (min (k.val + 3) 31 / 8) from congrArg (fun n => w (n / 8)) (by omega),
      show pb k.val = w (min (k.val + 3) 31 % 8) from congrArg (fun n => w (n % 8)) (by omega),
      show min (k.val + 3) 32 = min (k.val + 4) 32 by omega]
    iapply HQ
    iexact HF

/-- The first loop before the trips: the fetch of block 1 starts. -/
theorem while1_wp {Q : BitVec 32 × BitVec 32 × BitVec 32 × BitVec 32 × BitVec 32 → sProp 𝕄} :
    iprop(FA c A 1 ∗ (GA c A 1 -∗ Q (0#32, 1#32, nx0 0#32 1#32, nx1 1#32, 2#32)))
      ⊢ wp frame (wpE (defs₀ (F := F)) 𝒱₀ (c : Thread nD τ) (some 1)) Set.univ
      (defs₀ (F := F) .tc (1 : (Λ₀ F).Label) ⟨cc0_scoped1, aR, Memref.isWhole_whole _, adjM, Memref.isWhole_whole _, 0#32, 0#32, 0#32, 1#32, 1#32⟩) Q :=
  while1_one c A (p := 0#32) (r := 0#32) (x := 0#32) (y := 1#32) (n := 1#32) 1 (by decide +kernel) (by decide +kernel) (by decide +kernel) (by decide +kernel)
    (by decide +kernel) (by decide +kernel) (by decide +kernel) (by decide +kernel)

/-- The second loop before the trips: the fetch of block 2 starts. -/
theorem while2_wp {Q : BitVec 32 × BitVec 32 × BitVec 32 × BitVec 32 × BitVec 32 → sProp 𝕄} :
    iprop(FA c A 2 ∗ (GA c A 2 -∗ Q (0#32, 2#32, nx0 0#32 2#32, nx1 2#32, 3#32)))
      ⊢ wp frame (wpE (defs₀ (F := F)) 𝒱₀ (c : Thread nD τ) (some 1)) Set.univ
      (defs₀ (F := F) .tc (2 : (Λ₀ F).Label) ⟨3#32, cc0_scoped1, aR, Memref.isWhole_whole _, adjM, Memref.isWhole_whole _, 0#32, 1#32, 0#32, 2#32, 2#32⟩) Q :=
  while2_one c A 3#32 (p := 0#32) (r := 1#32) (x := 0#32) (y := 2#32) (n := 2#32) 2 (by decide +kernel) (by decide +kernel) (by decide +kernel) (by decide +kernel)
    (by decide +kernel) (by decide +kernel) (by decide +kernel) (by decide +kernel)

end Cert.Proof.K

end
-- ==== Proof.Parts.lean ====
/-
  The parts of the pipeline's trip, one theorem each: the fetches start, the trip's blocks land, the operands are read, the
  payload is stored, its copy out starts and the copy before it lands.
-/
module

public import proofs.«01_k».proof.Proof.Ahead
public import Idealize.ShloMosaic.Lib.VecWindow

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (c : Dev nD) (A : Buf (Elt F) ((c : Thread nD τ).loc main_arg0)) (N : Buf (Elt F) ((c : Thread nD τ).loc main_arg1))
  (f0 : Buf (Elt F) ((c : Thread nD τ).loc cc0_stg0_0)) (f1 : Buf (Elt F) ((c : Thread nD τ).loc cc0_stg1_0)) (f2 : Buf (Elt F) ((c : Thread nD τ).loc cc0_stg2_0))
  (f3 : Buf (Elt F) ((c : Thread nD τ).loc cc0_stg3_0)) (f4 : Buf (Elt F) ((c : Thread nD τ).loc cc0_stg4_0)) (f5 : Buf (Elt F) ((c : Thread nD τ).loc cc0_stg5_0))

/-- There are 32 trips. -/
theorem TT_lt (k : TT) : k.val < 32 := lt_of_lt_of_eq k.isLt trips_eq

/-- Reading a slot that holds a block gives the block's values. -/
theorem in_load {s : Shape} {sp : Space} {cs : CoreSpace} (S : Memref sig .tc sp s .f32) (D : Memref sig .tc cs s .f32) (sm : DmaSem sig) (q : PosShare TreeShare)
    (f : Buf (Elt F) (S.view.loc (c : Thread nD τ))) {bd : Option ℕ} {α : Type} {m : Memref sig .tc cs s .f32} (hm : m = D)
    {off : Fin s.rank → ℕ} {inb : ∀ a, off a + s.size a ≤ s.size a} {hl : m.view.LoadsAt (Rect.unit off s.size inb).toLoadRect}
    {k : (s.Idx → Elt F .f32) → Prog (TpuEff nD τ sig (Elt F) (Λ₀ F) .tc) α} {Q : α → sProp 𝕄} :
    InLand c S D sm q f ⊢ iprop((InLand c S D sm q f -∗ wp frame (wpE (defs₀ (F := F)) 𝒱₀ (c : Thread nD τ) bd) Set.univ (k (S.view.read (Elt F) f)) Q)
      -∗ wp frame (wpE (defs₀ (F := F)) 𝒱₀ (c : Thread nD τ) bd) Set.univ (.op (.load m (Rect.unit off s.size inb).toLoadRect hl) k) Q) := by
  subst hm
  unfold InLand
  iintro ⟨⟨%d, Hd, %h⟩, Hs, Hq⟩ Hk
  iapply (wp_load 𝒱₀ (c : Thread nD τ) bd Set.univ (m := m) (View.setOn_subset_set _ _)) $$ Hd
  iintro Hd
  rw [View.readAt_full, h]
  iapply Hk
  isplitl [Hd]
  · iexists d
    isplitl [Hd]
    · iexact Hd
    · ipureintro; exact h
  isplitl [Hs]
  · iexact Hs
  · iexact Hq

/-- Reading all of a buffer held whole. -/
theorem all_load {s : Shape} {cs : CoreSpace} (m : Memref sig .tc cs s .f32) {bd : Option ℕ} {α : Type} (f : Buf (Elt F) (m.view.loc (c : Thread nD τ)))
    {off : Fin s.rank → ℕ} {inb : ∀ a, off a + s.size a ≤ s.size a} {hl : m.view.LoadsAt (Rect.unit off s.size inb).toLoadRect}
    {k : (s.Idx → Elt F .f32) → Prog (TpuEff nD τ sig (Elt F) (Λ₀ F) .tc) α} {Q : α → sProp 𝕄} :
    (m.view.loc (c : Thread nD τ) ↦{fullShare} f) ⊢ iprop(((m.view.loc (c : Thread nD τ) ↦{fullShare} f) -∗ wp frame (wpE (defs₀ (F := F)) 𝒱₀ (c : Thread nD τ) bd) Set.univ (k (m.view.read (Elt F) f)) Q)
      -∗ wp frame (wpE (defs₀ (F := F)) 𝒱₀ (c : Thread nD τ) bd) Set.univ (.op (.load m (Rect.unit off s.size inb).toLoadRect hl) k) Q) := by
  iintro Hd Hk
  iapply (wp_load 𝒱₀ (c : Thread nD τ) bd Set.univ (m := m) (Finset.subset_univ _)) $$ Hd
  iintro Hd
  rw [View.readAt_full]
  iapply Hk
  iexact Hd

/-- Reading a slot held at some contents. -/
theorem slot_load {s : Shape} {cs : CoreSpace} (D : Memref sig .tc cs s .f32) {bd : Option ℕ} {α : Type} (d : Buf (Elt F) (D.view.loc (c : Thread nD τ)))
    {m : Memref sig .tc cs s .f32} (hm : m = D)
    {off : Fin s.rank → ℕ} {inb : ∀ a, off a + s.size a ≤ s.size a} {hl : m.view.LoadsAt (Rect.unit off s.size inb).toLoadRect}
    {k : (s.Idx → Elt F .f32) → Prog (TpuEff nD τ sig (Elt F) (Λ₀ F) .tc) α} {Q : α → sProp 𝕄} :
    (D.view.loc (c : Thread nD τ) ↦[D.view.set]{fullShare} d) ⊢ iprop(((D.view.loc (c : Thread nD τ) ↦[D.view.set]{fullShare} d) -∗ wp frame (wpE (defs₀ (F := F)) 𝒱₀ (c : Thread nD τ) bd) Set.univ (k (D.view.read (Elt F) d)) Q)
      -∗ wp frame (wpE (defs₀ (F := F)) 𝒱₀ (c : Thread nD τ) bd) Set.univ (.op (.load m (Rect.unit off s.size inb).toLoadRect hl) k) Q) := by
  subst hm
  iintro Hd Hk
  iapply (wp_load 𝒱₀ (c : Thread nD τ) bd Set.univ (m := m) (View.setOn_subset_set _ _)) $$ Hd
  iintro Hd
  rw [View.readAt_full]
  iapply Hk
  iexact Hd

/-- Writing a slot held at some contents: it then reads as what was written. -/
theorem slot_store {s : Shape} {cs : CoreSpace} (D : Memref sig .tc cs s .f32) {bd : Option ℕ} {α : Type} (d : Buf (Elt F) (D.view.loc (c : Thread nD τ)))
    {m : Memref sig .tc cs s .f32} (hm : m = D) (v : s.Idx → Elt F .f32)
    {off : Fin s.rank → ℕ} {inb : ∀ a, off a + s.size a ≤ s.size a} {hx : (m.access (Rect.unit off s.size inb)).Stores Finset.univ} {hy : Finset.univ = Finset.univ ∨ ∀ a, (Rect.unit off s.size inb).stride a = 1}
    {k : PUnit → Prog (TpuEff nD τ sig (Elt F) (Λ₀ F) .tc) α} {Q : α → sProp 𝕄} :
    (D.view.loc (c : Thread nD τ) ↦[D.view.set]{fullShare} d) ⊢ iprop(((∃ d' : Buf (Elt F) (D.view.loc (c : Thread nD τ)), (D.view.loc (c : Thread nD τ) ↦[D.view.set]{fullShare} d') ∗ ⌜D.view.read (Elt F) d' = v⌝)
        -∗ wp frame (wpE (defs₀ (F := F)) 𝒱₀ (c : Thread nD τ) bd) Set.univ (k ⟨⟩) Q)
      -∗ wp frame (wpE (defs₀ (F := F)) 𝒱₀ (c : Thread nD τ) bd) Set.univ (.op (.store m (Rect.unit off s.size inb) v Finset.univ hx hy) k) Q) := by
  subst hm
  iintro Hd Hk
  iapply (wp_store 𝒱₀ (c : Thread nD τ) bd Set.univ (m := m) (r := Rect.unit off s.size inb) (Mk := Finset.univ) (f := d) (View.set_slice_subset _ _)) $$ Hd
  iintro Hd
  iapply Hk
  iexists _
  isplitl [Hd]
  · iexact Hd
  · ipureintro
    exact View.read_writes_full m.view d inb v []

/-- The operands staged in fast memory: bias, the two layers' weights and biases, the dense layer's weights and bias. -/
def St : sProp 𝕄 :=
  iprop(((c : Thread nD τ).loc cc0_stg0_0 ↦{fullShare} f0) ∗ ((c : Thread nD τ).loc cc0_stg1_0 ↦{fullShare} f1) ∗ ((c : Thread nD τ).loc cc0_stg2_0 ↦{fullShare} f2)
    ∗ ((c : Thread nD τ).loc cc0_stg3_0 ↦{fullShare} f3) ∗ ((c : Thread nD τ).loc cc0_stg4_0 ↦{fullShare} f4) ∗ ((c : Thread nD τ).loc cc0_stg5_0 ↦{fullShare} f5))

/-! ## The block's payload -/

/-- Row `0` and row `1` of the staged biases. -/
abbrev row0 : FVec F S1x96 .f32 := (Memref.whole cc0_stg3_0).view.readAt (Elt F) (Rect.unit (s := S2x96) ![0, 0] S1x96.size inb_S2x96_S1x96_0_0).toLoadRect f3
/-- The second row of the staged biases. -/
abbrev row1 : FVec F S1x96 .f32 := (Memref.whole cc0_stg3_0).view.readAt (Elt F) (Rect.unit (s := S2x96) ![1, 0] S1x96.size inb_S2x96_S1x96_1_0).toLoadRect f3

/-- What the kernel computes from a block's adjacency rows `a`, its batch's annotations `n` and its own annotations `h`. -/
def payOf (a : FVec F S1x512x4096 .f32) (n : FVec F S1x4096x32 .f32) (h : FVec F S1x512x32 .f32) (b : FVec F S1x32 .f32) (w1 w2 : FVec F S32x96 .f32) (r0 r1 : FVec F S1x96 .f32)
    (wo : FVec F S32x32 .f32) (bo : FVec F S1x32 .f32) : FVec F S1x512x32 .f32 :=
  k0_pay8 (k0_pay2 h) (k0_pay4 h w2 r1) (k0_pay5 (k0_pay1 a) n b h w1 r0 w2 r1) (k0_pay6 (k0_pay1 a) n b h w1 r0 w2 r1) (k0_pay7 (k0_pay1 a) n b w1 r0) wo bo

/-- Block `j`'s payload. -/
def pay (j : ℕ) : S1x512x32.Idx → Elt F .f32 :=
  payOf ((aBlk j).view.read (Elt F) A) ((nBlk (j / 8)).view.read (Elt F) N) ((hBlk j).view.read (Elt F) N)
    ((Memref.whole cc0_stg0_0).view.read (Elt F) f0) ((Memref.whole cc0_stg1_0).view.read (Elt F) f1) ((Memref.whole cc0_stg2_0).view.read (Elt F) f2) (row0 c f3) (row1 c f3) ((Memref.whole cc0_stg4_0).view.read (Elt F) f4) ((Memref.whole cc0_stg5_0).view.read (Elt F) f5)

/-! ## The trip's parts -/

/-- The batch ring before the trip: the trip's batch due when the trip is its first, held otherwise; the other slot free. -/
def NI (k : ℕ) : sProp 𝕄 := iprop((if k % 8 = 0 then SN c N (k / 8) else LN c N (k / 8)) ∗ FN c N (k / 8 + 1))
/-- The other slot of the batch ring once the next batch was asked for on the batch's last trip. -/
def NX (k : ℕ) : sProp 𝕄 := if k % 8 = 7 then SN c N (k / 8 + 1) else FN c N (k / 8 + 1)

/-- Part 3: the trip's fetches start. -/
theorem part3_wp (k : TT) (h7 : k0_chk7 k (w k.val) (w (min (1 + k.val / 8) 4)) (w (k.val / 8)) (w (min (k.val + 1) 32)) (w k.val) (w k.val) (w (k.val - 1)) (w (k.val / 8 % 4)) (w (k.val % 8))) (arg9 v171 v172 v181 v182 v191 v192 : BitVec 32) {Q : _ → sProp 𝕄} :
    iprop(FA c A (k.val + 3) ∗ FN c N (k.val / 8 + 1) ∗ FH c N (k.val + 1) ∗ ((SA c A (k.val + 3) ∗ NX c N k.val ∗ SH c N (k.val + 1)) -∗
      Q ⟨w (min (k.val + 3) 31 / 8), w (min (k.val + 3) 31 % 8), w (min (k.val + 4) 32),
        Scalar.select (Scalar.andi (Scalar.andi (Scalar.cmpi .ne v171 v191) (Scalar.xori (Scalar.cmpi .sge arg9 31#32) 1#1)) 1#1) (Scalar.addi (w (min (1 + k.val / 8) 4)) 1#32) (w (min (1 + k.val / 8) 4)),
        Scalar.select (Scalar.andi (Scalar.andi (Scalar.ori (Scalar.cmpi .ne v171 v191) (Scalar.cmpi .ne v172 v192)) (Scalar.xori (Scalar.cmpi .sge arg9 31#32) 1#1)) 1#1) (Scalar.addi (w (min (k.val + 1) 32)) 1#32) (w (min (k.val + 1) 32)),
        Scalar.cmpi .ne v171 v181, Scalar.cmpi .ne v172 v182⟩))
      ⊢ wp frame (wpE (defs₀ (F := F)) 𝒱₀ (c : Thread nD τ) none) Set.univ (k0_part3 adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7 k (w (min (k.val + 3) 32)) (w k.val) (pa k.val) (pb k.val) (w (min (1 + k.val / 8) 4)) (w (k.val / 8)) (w (min (k.val + 1) 32)) (w k.val) (w k.val) (w (k.val - 1)) (w (k.val / 8 % 4)) (w (k.val % 8)) h7 arg9 v171 v172 v181 v182 v191 v192 (Scalar.addi (w k.val) 4#32) 1#32) Q := by
  rw [k0_part3_eq_skeleton]
  unfold k0_part3_skel
  simp only [Prog.lift, Prog.bind_op, Prog.bind_ret, Prog.pure_eq_ret]
  iintro ⟨HA, HN, HH, HQ⟩
  iapply (wp_call 𝒱₀ (c : Thread nD τ) none Set.univ 1 (fun u hu => nomatch hu))
  iapply (while3_wp c A k)
  isplitl [HA]
  · iexact HA
  iintro %x %y HA
  unfold NX SH SN
  by_cases h4 : k.val % 8 = 7 ∧ k.val < 31
  · have h5 : k.val < 31 := h4.2
    simp only [dif_pos ((cond4_iff k).2 h4), dif_pos ((cond5_iff k).2 h5), Prog.lift, Prog.bind_op, Prog.bind_ret, Prog.pure_eq_ret]
    rw [if_pos h4.1, if_pos (show k.val / 8 + 1 < 4 by omega), if_pos (show k.val + 1 < 32 by omega)]
    unfold FN FH
    iapply (in_start c (nBlk (k.val / 8 + 1)) (nSlot (k.val / 8 + 1)) (nSem (k.val / 8 + 1)) (qT ((k.val / 8 + 1) % 2)) N (nBlk_eq (off18_eq k h4) _) (nSlot_eq (off17_eq k h5) _) (congrArg SemLoc.dma (nSem_eq (off16_eq k h5) _)) (by decide)) $$ HN
    iintro HN
    iapply (in_start c (hBlk (k.val + 1)) (hSlot (k.val + 1)) (hSem (k.val + 1)) (qT (2 + (k.val + 1) % 2)) N (hBlk_eq (off21_eq k h5) _) (hSlot_eq (off20_eq k h5) _) (congrArg SemLoc.dma (hSem_eq (off19_eq k h5) _)) (by decide)) $$ HH
    iintro HH
    rw [wp_ret]
    imodintro
    iapply HQ
    unfold GN GH
    isplitl [HA]
    · iexact HA
    isplitl [HN]
    · iexact HN
    · iexact HH
  · by_cases h5 : k.val < 31
    · have h8 : ¬ k.val % 8 = 7 := fun h => h4 ⟨h, h5⟩
      simp only [dif_neg (fun h => h4 ((cond4_iff k).1 h)), dif_pos ((cond5_iff k).2 h5), Prog.lift, Prog.bind_op, Prog.bind_ret, Prog.pure_eq_ret]
      rw [if_neg h8, if_pos (show k.val + 1 < 32 by omega)]
      unfold FH
      iapply (in_start c (hBlk (k.val + 1)) (hSlot (k.val + 1)) (hSem (k.val + 1)) (qT (2 + (k.val + 1) % 2)) N (hBlk_eq (off21_eq k h5) _) (hSlot_eq (off20_eq k h5) _) (congrArg SemLoc.dma (hSem_eq (off19_eq k h5) _)) (by decide)) $$ HH
      iintro HH
      rw [wp_ret]
      imodintro
      iapply HQ
      unfold GH
      isplitl [HA]
      · iexact HA
      isplitl [HN]
      · iexact HN
      · iexact HH
    · have hk : k.val = 31 := by have := TT_lt k; omega
      simp only [dif_neg (fun h => h4 ((cond4_iff k).1 h)), dif_neg (fun h => h5 ((cond5_iff k).1 h)), Prog.lift, Prog.bind_op, Prog.bind_ret, Prog.pure_eq_ret]
      rw [if_pos (show k.val % 8 = 7 by omega), if_neg (show ¬ k.val / 8 + 1 < 4 by omega), if_neg (show ¬ k.val + 1 < 32 by omega)]
      rw [wp_ret]
      imodintro
      iapply HQ
      isplitl [HA]
      · iexact HA
      isplitl [HN]
      · iexact HN
      · iexact HH

/-- Part 4: the trip's blocks land, and the adjacency's is read. -/
theorem part4_wp (k : TT) (h8 : k0_chk8 (w k.val)) (h7 : k0_chk7 k (w k.val) (w (min (1 + k.val / 8) 4)) (w (k.val / 8)) (w (min (k.val + 1) 32)) (w k.val) (w k.val) (w (k.val - 1)) (w (k.val / 8 % 4)) (w (k.val % 8))) (arg9 : BitVec 32) (v169 : BitVec 1) (v171 v172 v181 v182 : BitVec 32) (v266 v267 : BitVec 1) {Q : _ → sProp 𝕄} :
    iprop(SA c A k.val ∗ (if k.val % 8 = 0 then SN c N (k.val / 8) else LN c N (k.val / 8)) ∗ SH c N k.val ∗ Ow c
      ∗ ((LA c A k.val ∗ LN c N (k.val / 8) ∗ LH c N k.val ∗ Ow c) -∗ Q (k0_pay1 ((aBlk k.val).view.read (Elt F) A))))
      ⊢ wp frame (wpE (defs₀ (F := F)) 𝒱₀ (c : Thread nD τ) none) Set.univ (k0_part4 adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7 k (w k.val) (w (min (1 + k.val / 8) 4)) (w (k.val / 8)) (w (min (k.val + 1) 32)) (w k.val) (w k.val) (w (k.val - 1)) (w (k.val / 8 % 4)) (w (k.val % 8)) h8 h7 arg9 v169 v171 v172 v181 v182 v266 v267) Q := by
  have hk : k.val < 32 := by have := TT_lt k; omega
  rw [k0_part4_eq_skeleton]
  unfold k0_part4_skel SA SH SN
  rw [if_pos hk, if_pos hk, if_pos (show k.val / 8 < 4 by omega)]
  by_cases h0 : k.val % 8 = 0
  · rw [if_pos h0]
    iintro ⟨HA, HN, HH, HO, HQ⟩
    simp only [dif_pos ((cond7_iff k).2 h0), dif_pos (cond6_ok k), dif_pos (cond8_ok k), ite_self, Prog.lift, Prog.bind_op, Prog.bind_ret, Prog.pure_eq_ret]
    unfold GA GN GH
    iapply (in_wait c (aBlk k.val) (aSlot k.val) (aSem k.val) (qT (k.val % 4)) A (aSlot_eq (off23_eq k) _) (aSem_eq (off22_eq k) _)) $$ [HA HO]
    · isplitl [HA]
      · iexact HA
      · iexact HO
    iintro ⟨HA, HO⟩
    iapply (in_wait c (nBlk (k.val / 8)) (nSlot (k.val / 8)) (nSem (k.val / 8)) (qT (k.val / 8 % 2)) N (nSlot_eq (off26_eq k) _) (nSem_eq (off25_eq k) _)) $$ [HN HO]
    · isplitl [HN]
      · iexact HN
      · iexact HO
    iintro ⟨HN, HO⟩
    iapply (in_wait c (hBlk k.val) (hSlot k.val) (hSem k.val) (qT (2 + k.val % 2)) N (hSlot_eq (off29_eq k) _) (hSem_eq (off28_eq k) _)) $$ [HH HO]
    · isplitl [HH]
      · iexact HH
      · iexact HO
    iintro ⟨HH, HO⟩
    iapply (in_load c (aBlk k.val) (aSlot k.val) (aSem k.val) (qT (k.val % 4)) A (aSlot_eq (off31_eq k) _)) $$ HA
    iintro HA
    rw [wp_ret]
    imodintro
    iapply HQ
    unfold LA LN LH
    isplitl [HA]
    · iexact HA
    isplitl [HN]
    · iexact HN
    isplitl [HH]
    · iexact HH
    · iexact HO
  · rw [if_neg h0]
    iintro ⟨HA, HN, HH, HO, HQ⟩
    simp only [dif_neg (fun h => h0 ((cond7_iff k).1 h)), dif_pos (cond6_ok k), dif_pos (cond8_ok k), ite_self, Prog.lift, Prog.bind_op, Prog.bind_ret, Prog.pure_eq_ret]
    unfold GA GH
    iapply (in_wait c (aBlk k.val) (aSlot k.val) (aSem k.val) (qT (k.val % 4)) A (aSlot_eq (off23_eq k) _) (aSem_eq (off22_eq k) _)) $$ [HA HO]
    · isplitl [HA]
      · iexact HA
      · iexact HO
    iintro ⟨HA, HO⟩
    iapply (in_wait c (hBlk k.val) (hSlot k.val) (hSem k.val) (qT (2 + k.val % 2)) N (hSlot_eq (off29_eq k) _) (hSem_eq (off28_eq k) _)) $$ [HH HO]
    · isplitl [HH]
      · iexact HH
      · iexact HO
    iintro ⟨HH, HO⟩
    iapply (in_load c (aBlk k.val) (aSlot k.val) (aSem k.val) (qT (k.val % 4)) A (aSlot_eq (off31_eq k) _)) $$ HA
    iintro HA
    rw [wp_ret]
    imodintro
    iapply HQ
    unfold LA LH
    isplitl [HA]
    · iexact HA
    isplitl [HN]
    · iexact HN
    isplitl [HH]
    · iexact HH
    · iexact HO

/-- Part 5: the annotations and the staged operands are read. -/
theorem part5_wp (k : TT) (h10 : k0_chk10 (w k.val)) (h9 : k0_chk9 (w (k.val / 8))) (v303 : FVec F S512x4096 .f32) {Q : _ → sProp 𝕄} :
    iprop(LN c N (k.val / 8) ∗ LH c N k.val ∗ St c f0 f1 f2 f3 f4 f5
      ∗ ((LN c N (k.val / 8) ∗ LH c N k.val ∗ St c f0 f1 f2 f3 f4 f5) -∗ Q ⟨k0_pay2 ((hBlk k.val).view.read (Elt F) N), k0_pay4 ((hBlk k.val).view.read (Elt F) N) ((Memref.whole cc0_stg2_0).view.read (Elt F) f2) (row1 c f3),
        k0_pay5 v303 ((nBlk (k.val / 8)).view.read (Elt F) N) ((Memref.whole cc0_stg0_0).view.read (Elt F) f0)
          ((hBlk k.val).view.read (Elt F) N) ((Memref.whole cc0_stg1_0).view.read (Elt F) f1) (row0 c f3) ((Memref.whole cc0_stg2_0).view.read (Elt F) f2) (row1 c f3),
        k0_pay6 v303 ((nBlk (k.val / 8)).view.read (Elt F) N) ((Memref.whole cc0_stg0_0).view.read (Elt F) f0)
          ((hBlk k.val).view.read (Elt F) N) ((Memref.whole cc0_stg1_0).view.read (Elt F) f1) (row0 c f3) ((Memref.whole cc0_stg2_0).view.read (Elt F) f2) (row1 c f3),
        k0_pay7 v303 ((nBlk (k.val / 8)).view.read (Elt F) N) ((Memref.whole cc0_stg0_0).view.read (Elt F) f0) ((Memref.whole cc0_stg1_0).view.read (Elt F) f1) (row0 c f3)⟩))
      ⊢ wp frame (wpE (defs₀ (F := F)) 𝒱₀ (c : Thread nD τ) none) Set.univ (k0_part5 adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7 (w (k.val / 8)) (w k.val) h10 h9 v303) Q := by
  rw [k0_part5_eq_skeleton]
  unfold k0_part5_skel LN LH St
  simp only [Prog.lift, Prog.bind_op, Prog.bind_ret, Prog.pure_eq_ret]
  iintro ⟨HN, HH, ⟨H0, H1, H2, H3, H4, H5⟩, HQ⟩
  iapply (in_load c (nBlk (k.val / 8)) (nSlot (k.val / 8)) (nSem (k.val / 8)) (qT (k.val / 8 % 2)) N (nSlot_eq (off32_eq k) _)) $$ HN
  iintro HN
  iapply (all_load c (Memref.whole cc0_stg0_0) f0) $$ H0
  iintro H0
  iapply (in_load c (hBlk k.val) (hSlot k.val) (hSem k.val) (qT (2 + k.val % 2)) N (hSlot_eq (off33_eq k) _)) $$ HH
  iintro HH
  iapply (all_load c (Memref.whole cc0_stg1_0) f1) $$ H1
  iintro H1
  iapply (wp_load 𝒱₀ (c : Thread nD τ) none Set.univ (m := Memref.whole cc0_stg3_0) (Finset.subset_univ _)) $$ H3
  iintro H3
  iapply (all_load c (Memref.whole cc0_stg2_0) f2) $$ H2
  iintro H2
  iapply (wp_load 𝒱₀ (c : Thread nD τ) none Set.univ (m := Memref.whole cc0_stg3_0) (Finset.subset_univ _)) $$ H3
  iintro H3
  rw [wp_ret]
  imodintro
  iapply HQ
  isplitl [HN]
  · iexact HN
  isplitl [HH]
  · iexact HH
  isplitl [H0]
  · iexact H0
  isplitl [H1]
  · iexact H1
  isplitl [H2]
  · iexact H2
  isplitl [H3]
  · iexact H3
  isplitl [H4]
  · iexact H4
  · iexact H5

/-- The slot of block `j` holding `v`, nothing in flight. -/
def HO (j : ℕ) (v : S1x512x32.Idx → Elt F .f32) : sProp 𝕄 :=
  iprop((∃ d : Buf (Elt F) ((oSlot j).view.loc (c : Thread nD τ)), ((oSlot j).view.loc (c : Thread nD τ) ↦[(oSlot j).view.set]{fullShare} d) ∗ ⌜(oSlot j).view.read (Elt F) d = v⌝)
    ∗ semVal ((c : Thread nD τ), SemLoc.dma (oSem j)) 0)

/-- Part 6: the dense layer's operands are read and the block's payload stored into the result's slot. -/
theorem part6_wp (k : TT) (h11 : k0_chk11 (w k.val)) (v170 : BitVec 1) (v171 v172 v191 v192 : BitVec 32) (v317 : FVec F S512x32 .f32) (v331 : FVec F S512x96 .f32) (v335 v339 v340 : FVec F S512x32 .f32) {Q : _ → sProp 𝕄} :
    iprop(FO c k.val ∗ St c f0 f1 f2 f3 f4 f5
      ∗ ((HO c k.val (k0_pay8 v317 v331 v335 v339 v340 ((Memref.whole cc0_stg4_0).view.read (Elt F) f4) ((Memref.whole cc0_stg5_0).view.read (Elt F) f5)) ∗ St c f0 f1 f2 f3 f4 f5) -∗ Q ⟨Scalar.ori (Scalar.ori (Scalar.cmpi .ne v171 v191) (Scalar.cmpi .ne v172 v192)) v170, 0#1⟩))
      ⊢ wp frame (wpE (defs₀ (F := F)) 𝒱₀ (c : Thread nD τ) none) Set.univ (k0_part6 adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7 (w k.val) h11 v170 v171 v172 v191 v192 v317 v331 v335 v339 v340) Q := by
  rw [k0_part6_eq_skeleton]
  unfold k0_part6_skel FO St HO
  simp only [ite_self, Prog.lift, Prog.bind_op, Prog.bind_ret, Prog.pure_eq_ret]
  iintro ⟨⟨⟨%d, Hd⟩, Hs⟩, ⟨H0, H1, H2, H3, H4, H5⟩, HQ⟩
  iapply (all_load c (Memref.whole cc0_stg4_0) f4) $$ H4
  iintro H4
  iapply (all_load c (Memref.whole cc0_stg5_0) f5) $$ H5
  iintro H5
  iapply (slot_load c (oSlot k.val) d (oSlot_eq (off34_eq k) _)) $$ Hd
  iintro Hd
  iapply (slot_store c (oSlot k.val) d (oSlot_eq (off34_eq k) _)) $$ Hd
  iintro Hd
  rw [wp_ret]
  imodintro
  iapply HQ
  isplitl [Hd Hs]
  · isplitl [Hd]
    · iexact Hd
    · iexact Hs
  isplitl [H0]
  · iexact H0
  isplitl [H1]
  · iexact H1
  isplitl [H2]
  · iexact H2
  isplitl [H3]
  · iexact H3
  isplitl [H4]
  · iexact H4
  · iexact H5

/-- Part 7: the block's copy out starts, and the one before it lands. -/
theorem part7_wp (P : ℕ → S1x512x32.Idx → Elt F .f32) (k : TT) (h7 : k0_chk7 k (w k.val) (w (min (1 + k.val / 8) 4)) (w (k.val / 8)) (w (min (k.val + 1) 32)) (w k.val) (w k.val) (w (k.val - 1)) (w (k.val / 8 % 4)) (w (k.val % 8))) (v169 v170 : BitVec 1) (v171 v172 v181 v182 v191 v192 : BitVec 32) (v376 : BitVec 1) {Q : _ → sProp 𝕄} :
    iprop(HO c k.val (P k.val) ∗ RO c k.val ∗ (if k.val = 0 then FO c 1 else GO c P (k.val - 1)) ∗ Ow c
      ∗ ((GO c P k.val ∗ (if k.val = 0 then emp else DO c P (k.val - 1)) ∗ FO c (k.val + 1) ∗ Ow c) -∗ Q ⟨Scalar.select (Scalar.andi (Scalar.ori (Scalar.ori (Scalar.cmpi .ne v171 v191) (Scalar.cmpi .ne v172 v192)) v170) 1#1) (Scalar.addi (w k.val) 1#32) (w k.val), Scalar.andi (Scalar.andi (Scalar.ori (Scalar.cmpi .ne v171 v181) (Scalar.cmpi .ne v172 v182)) (Scalar.xori v169 1#1)) 1#1⟩))
      ⊢ wp frame (wpE (defs₀ (F := F)) 𝒱₀ (c : Thread nD τ) none) Set.univ (k0_part7 adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7 k (w k.val) (w (min (1 + k.val / 8) 4)) (w (k.val / 8)) (w (min (k.val + 1) 32)) (w k.val) (w k.val) (w (k.val - 1)) (w (k.val / 8 % 4)) (w (k.val % 8)) h7 v169 v170 v171 v172 v181 v182 v191 v192 v376 0#1) Q := by
  rw [k0_part7_eq_skeleton]
  unfold k0_part7_skel HO
  simp only [dif_pos (cond13_ok k), ite_self, Prog.lift, Prog.bind_op, Prog.bind_ret, Prog.pure_eq_ret]
  by_cases h0 : 0 < k.val
  · simp only [dif_pos ((cond17_iff k).2 h0), Prog.lift, Prog.bind_op, Prog.bind_ret, Prog.pure_eq_ret]
    rw [if_neg (show ¬ k.val = 0 by omega), if_neg (show ¬ k.val = 0 by omega)]
    iintro ⟨⟨⟨%d, Hd, %hd⟩, Hs⟩, HR, HG, HW, HQ⟩
    iapply (o_start c P k.val (oSlot_eq (off37_eq k) _) (oBlk_eq (off36_eq k) _) (congrArg SemLoc.dma (oSem_eq (off35_eq k) _)) d hd) $$ [Hd HR Hs]
    · isplitl [Hd]
      · iexact Hd
      isplitl [HR]
      · iexact HR
      · iexact Hs
    iintro HS
    iapply (o_wait c P (k.val - 1) (oBlk_eq (off39_eq k h0) _) (oSem_eq (off38_eq k) _)) $$ [HG HW]
    · isplitl [HG]
      · iexact HG
      · iexact HW
    iintro ⟨HD, HF, HW⟩
    rw [wp_ret]
    imodintro
    iapply HQ
    isplitl [HS]
    · iexact HS
    isplitl [HD]
    · iexact HD
    isplitl [HF]
    · rw [show k.val - 1 + 2 = k.val + 1 by omega]
      iexact HF
    · iexact HW
  · simp only [dif_neg (fun h => h0 ((cond17_iff k).1 h)), Prog.lift, Prog.bind_op, Prog.bind_ret, Prog.pure_eq_ret]
    rw [if_pos (show k.val = 0 by omega), if_pos (show k.val = 0 by omega)]
    iintro ⟨⟨⟨%d, Hd, %hd⟩, Hs⟩, HR, HG, HW, HQ⟩
    iapply (o_start c P k.val (oSlot_eq (off37_eq k) _) (oBlk_eq (off36_eq k) _) (congrArg SemLoc.dma (oSem_eq (off35_eq k) _)) d hd) $$ [Hd HR Hs]
    · isplitl [Hd]
      · iexact Hd
      isplitl [HR]
      · iexact HR
      · iexact Hs
    iintro HS
    rw [wp_ret]
    imodintro
    iapply HQ
    isplitl [HS]
    · iexact HS
    isplitr
    · iempintro
    isplitl [HG]
    · rw [show k.val + 1 = 1 by omega]
      iexact HG
    · iexact HW

end Cert.Proof.K

end
-- ==== Proof.Trip.lean ====
/-
  One trip of the pipeline's loop, from what is held before it to what is held before the next.
-/
module

public import proofs.«01_k».proof.Proof.Parts

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (c : Dev nD) (A : Buf (Elt F) ((c : Thread nD τ).loc main_arg0)) (N : Buf (Elt F) ((c : Thread nD τ).loc main_arg1))
  (f0 : Buf (Elt F) ((c : Thread nD τ).loc cc0_stg0_0)) (f1 : Buf (Elt F) ((c : Thread nD τ).loc cc0_stg1_0)) (f2 : Buf (Elt F) ((c : Thread nD τ).loc cc0_stg2_0))
  (f3 : Buf (Elt F) ((c : Thread nD τ).loc cc0_stg3_0)) (f4 : Buf (Elt F) ((c : Thread nD τ).loc cc0_stg4_0)) (f5 : Buf (Elt F) ((c : Thread nD τ).loc cc0_stg5_0))

/-! ## The result's blocks, done and to do -/

/-- The blocks from `k` on: the first, and the rest. -/
theorem Ico_head (Φ : ℕ → sProp 𝕄) {k : ℕ} (h : k < 32) : bigSep (Finset.Ico k 32) Φ = iprop(Φ k ∗ bigSep (Finset.Ico (k + 1) 32) Φ) := by
  have e : Finset.Ico k 32 = insert k (Finset.Ico (k + 1) 32) := by
    ext i; simp only [Finset.mem_Ico, Finset.mem_insert]; omega
  rw [e, bigSep_insert (by simp)]
  rfl

/-- One more block done. -/
theorem range_last (Φ : ℕ → sProp 𝕄) (k : ℕ) : bigSep (Finset.range k) Φ = iprop((if k = 0 then emp else Φ (k - 1)) ∗ bigSep (Finset.range (k - 1)) Φ) := by
  cases k with
  | zero =>
    simp only [if_true, Finset.range_zero, bigSep_empty, Nat.zero_sub]
    exact (equiv_iff.mp emp_sep).symm
  | succ n =>
    rw [if_neg (Nat.succ_ne_zero n), Nat.add_sub_cancel, Finset.range_add_one, bigSep_insert (by simp)]
    rfl

/-- The blocks done, with the last one. -/
theorem range_join (Φ : ℕ → sProp 𝕄) (k : ℕ) : iprop((if k = 0 then emp else Φ (k - 1)) ∗ bigSep (Finset.range (k - 1)) Φ) ⊢ bigSep (Finset.range k) Φ := by
  rw [← range_last]

/-! ## The trip -/

/-- What is held before trip `k`. -/
def Held (k : ℕ) : sProp 𝕄 :=
  iprop((SA c A k ∗ SA c A (k + 1) ∗ SA c A (k + 2) ∗ FA c A (k + 3)) ∗ NI c N k ∗ (SH c N k ∗ FH c N (k + 1))
    ∗ ((if k = 0 then FO c 1 else GO c (pay c A N f0 f1 f2 f3 f4 f5) (k - 1)) ∗ FO c k)
    ∗ (bigSep (Finset.Ico k 32) (fun j => RO c j) ∗ bigSep (Finset.range (k - 1)) (fun j => DO c (pay c A N f0 f1 f2 f3 f4 f5) j))
    ∗ St c f0 f1 f2 f3 f4 f5 ∗ Ow c)

/-- The loop's invariant: the words carried are trip `k`'s, and the resources are. -/
def Inv (k : ℕ) (acc : BitVec 32 × BitVec 32 × BitVec 32 × BitVec 32 × BitVec 32 × BitVec 32 × BitVec 32 × BitVec 32 × BitVec 32 × BitVec 32 × BitVec 32 × BitVec 32) : sProp 𝕄 :=
  iprop(⌜acc = words k⌝ ∗ Held c A N f0 f1 f2 f3 f4 f5 k)

/-- The batch ring after the trip: the batch held goes on, or is done with and the next one is due. -/
theorem NI_next (k : ℕ) : iprop(LN c N (k / 8) ∗ NX c N k) ⊢ (NI c N (k + 1) : sProp 𝕄) := by
  unfold NI NX
  by_cases h : k % 8 = 7
  · rw [if_pos h, if_pos (show (k + 1) % 8 = 0 by omega), show (k + 1) / 8 = k / 8 + 1 by omega]
    iintro ⟨HL, HX⟩
    isplitl [HX]
    · iexact HX
    · iapply LN_FN
      iexact HL
  · rw [if_neg h, if_neg (show ¬ (k + 1) % 8 = 0 by omega), show (k + 1) / 8 = k / 8 by omega]

/-- One trip: from what is held before it to what is held before the next. -/
theorem trip_wp (k : TT) (v60 v67 v74 v82 v84 : BitVec 32) (vf : BitVec 1) :
    Held c A N f0 f1 f2 f3 f4 f5 k.val
      ⊢ wp frame (wpE (defs₀ (F := F)) 𝒱₀ (c : Thread nD τ) none) Set.univ (k0_t1_body adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7 v60 v67 v74 v82 v84 vf k (words k.val)) (Inv c A N f0 f1 f2 f3 f4 f5 (k.val + 1)) := by
  unfold k0_t1_body words
  rw [k0_part1_eq_skeleton, k0_part2_eq_skeleton]
  unfold k0_part1_skel k0_part2_skel
  simp only [Prog.lift, Prog.bind_op, Prog.bind_ret, Prog.pure_eq_ret]
  unfold Held
  rw [Ico_head _ (TT_lt k)]
  iintro ⟨⟨HA0, HA1, HA2, HA3⟩, HN, ⟨HH0, HH1⟩, ⟨HG, HF⟩, ⟨⟨HR, HRs⟩, HD⟩, HS, HW⟩
  unfold NI
  icases HN with ⟨HN0, HN1⟩
  iapply (wp_assume 𝒱₀ (c : Thread nD τ) none Set.univ (chk11_ok k))
  iapply (wp_assume 𝒱₀ (c : Thread nD τ) none Set.univ (chk10_ok k))
  iapply (wp_assume 𝒱₀ (c : Thread nD τ) none Set.univ (chk9_ok k))
  iapply (wp_assume 𝒱₀ (c : Thread nD τ) none Set.univ (chk8_ok k))
  iapply (wp_assume 𝒱₀ (c : Thread nD τ) none Set.univ (chk7_ok k))
  rw [wp_bind]
  iapply (part3_wp c A N k)
  isplitl [HA3]
  · iexact HA3
  isplitl [HN1]
  · iexact HN1
  isplitl [HH1]
  · iexact HH1
  iintro ⟨HA3, HN1, HH1⟩
  rw [wp_bind]
  iapply (part4_wp c A N k)
  isplitl [HA0]
  · iexact HA0
  isplitl [HN0]
  · iexact HN0
  isplitl [HH0]
  · iexact HH0
  isplitl [HW]
  · iexact HW
  iintro ⟨HA0, HN0, HH0, HW⟩
  rw [wp_bind]
  iapply (part5_wp c N f0 f1 f2 f3 f4 f5 k)
  isplitl [HN0]
  · iexact HN0
  isplitl [HH0]
  · iexact HH0
  isplitl [HS]
  · iexact HS
  iintro ⟨HN0, HH0, HS⟩
  rw [wp_bind]
  iapply (part6_wp c f0 f1 f2 f3 f4 f5 k)
  isplitl [HF]
  · iexact HF
  isplitl [HS]
  · iexact HS
  iintro ⟨HF, HS⟩
  rw [wp_bind]
  iapply (part7_wp c (pay c A N f0 f1 f2 f3 f4 f5) k)
  isplitl [HF]
  · iexact HF
  isplitl [HR]
  · iexact HR
  isplitl [HG]
  · iexact HG
  isplitl [HW]
  · iexact HW
  iintro ⟨HG, HD0, HF, HW⟩
  rw [wp_ret]
  imodintro
  unfold Inv Held
  isplitr
  · ipureintro
    clear * -
    unfold words
    refine congrArg₂ Prod.mk ?_ (congrArg₂ Prod.mk ?_ (congrArg₂ Prod.mk ?_ (congrArg₂ Prod.mk ?_ (congrArg₂ Prod.mk ?_ (congrArg₂ Prod.mk ?_
      (congrArg₂ Prod.mk ?_ (congrArg₂ Prod.mk ?_ (congrArg₂ Prod.mk ?_ (congrArg₂ Prod.mk ?_ (congrArg₂ Prod.mk ?_ ?_)))))))))) <;>
    · revert k
      decide +kernel
  isplitl [HA0 HA1 HA2 HA3]
  · isplitl [HA1]
    · iexact HA1
    isplitl [HA2]
    · iexact HA2
    isplitl [HA3]
    · iexact HA3
    · iapply LA_FA
      iexact HA0
  isplitl [HN0 HN1]
  · iapply NI_next
    isplitl [HN0]
    · iexact HN0
    · iexact HN1
  isplitl [HH0 HH1]
  · isplitl [HH1]
    · iexact HH1
    · iapply LH_FH
      iexact HH0
  isplitl [HG HF]
  · rw [if_neg (Nat.succ_ne_zero k.val), Nat.add_sub_cancel]
    isplitl [HG]
    · iexact HG
    · iexact HF
  isplitl [HRs HD HD0]
  · isplitl [HRs]
    · iexact HRs
    · rw [Nat.add_sub_cancel]
      iapply (range_join (fun j => DO c (pay c A N f0 f1 f2 f3 f4 f5) j) k.val)
      isplitl [HD0]
      · iexact HD0
      · iexact HD
  isplitl [HS]
  · iexact HS
  · iexact HW

end Cert.Proof.K

end
-- ==== Proof.Body.lean ====
/-
  The kernel's body: the first fetches, the pipeline's loop by its invariant, and the last block's copy out.
-/
module

public import proofs.«01_k».proof.Proof.Trip

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (c : Dev nD) (A : Buf (Elt F) ((c : Thread nD τ).loc main_arg0)) (N : Buf (Elt F) ((c : Thread nD τ).loc main_arg1))
  (f0 : Buf (Elt F) ((c : Thread nD τ).loc cc0_stg0_0)) (f1 : Buf (Elt F) ((c : Thread nD τ).loc cc0_stg1_0)) (f2 : Buf (Elt F) ((c : Thread nD τ).loc cc0_stg2_0))
  (f3 : Buf (Elt F) ((c : Thread nD τ).loc cc0_stg3_0)) (f4 : Buf (Elt F) ((c : Thread nD τ).loc cc0_stg4_0)) (f5 : Buf (Elt F) ((c : Thread nD τ).loc cc0_stg5_0))

/-! ## The slots after the last trip -/

/-- After 32 blocks the adjacency ring's free slot is the same one. -/
theorem FA_32 (j : ℕ) : FA c A (j + 32) = (FA c A j : sProp 𝕄) := by
  rw [show j + 32 = j + 4 + 4 + 4 + 4 + 4 + 4 + 4 + 4 from rfl]; simp only [FA_add]
/-- After 4 batches the batch ring's free slot is the same one. -/
theorem FN_4 (j : ℕ) : FN c N (j + 4) = (FN c N j : sProp 𝕄) := by
  rw [show j + 4 = j + 2 + 2 from rfl]; simp only [FN_add]
/-- After 32 blocks the free slot of own annotations is the same one. -/
theorem FH_32 (j : ℕ) : FH c N (j + 32) = (FH c N j : sProp 𝕄) := by
  rw [show j + 32 = j + 2 + 2 + 2 + 2 + 2 + 2 + 2 + 2 + 2 + 2 + 2 + 2 + 2 + 2 + 2 + 2 from rfl]; simp only [FH_add]
/-- After 32 blocks the result ring's free slot is the same one. -/
theorem FO_32 (j : ℕ) : FO c (j + 32) = (FO c j : sProp 𝕄) := by
  rw [show j + 32 = j + 2 + 2 + 2 + 2 + 2 + 2 + 2 + 2 + 2 + 2 + 2 + 2 + 2 + 2 + 2 + 2 from rfl]; simp only [FO_add]

/-- The second output slot comes back to itself. -/
theorem FO_33 : (FO c (31 + 2) : sProp 𝕄) ⊢ FO c 1 := by rw [show 31 + 2 = 1 + 32 from rfl, FO_32]

/-- The rings with nothing in flight. -/
def Rings : sProp 𝕄 :=
  iprop((FA c A 0 ∗ FA c A 1 ∗ FA c A 2 ∗ FA c A 3) ∗ (FN c N 0 ∗ FN c N 1) ∗ (FH c N 0 ∗ FH c N 1) ∗ (FO c 0 ∗ FO c 1))

/-- What is held before the first trip, the fetches of the first blocks in flight. -/
theorem held_zero :
    iprop((GA c A 0 ∗ GA c A 1 ∗ GA c A 2 ∗ FA c A 3) ∗ (GN c N 0 ∗ FN c N 1) ∗ (GH c N 0 ∗ FH c N 1) ∗ (FO c 0 ∗ FO c 1)
      ∗ bigSep (Finset.Ico 0 32) (fun j => RO c j) ∗ St c f0 f1 f2 f3 f4 f5 ∗ Ow c)
      ⊢ Held c A N f0 f1 f2 f3 f4 f5 0 := by
  unfold Held NI SA SN SH
  rw [if_pos (show 0 < 32 by decide), if_pos (show 0 + 1 < 32 by decide), if_pos (show 0 + 2 < 32 by decide), if_pos (show 0 % 8 = 0 by decide),
    if_pos (show 0 / 8 < 4 by decide), if_pos (show 0 < 32 by decide), if_pos rfl]
  iintro ⟨HA, HN, HH, ⟨HF0, HF1⟩, HR, HS, HW⟩
  isplitl [HA]
  · iexact HA
  isplitl [HN]
  · iexact HN
  isplitl [HH]
  · iexact HH
  isplitl [HF0 HF1]
  · isplitl [HF1]
    · iexact HF1
    · iexact HF0
  isplitl [HR]
  · isplitl [HR]
    · iexact HR
    · rw [show (0 - 1) = 0 from rfl, Finset.range_zero, bigSep_empty]
      iempintro
  isplitl [HS]
  · iexact HS
  · iexact HW

/-- What is held after the last trip: nothing in flight but the last block's copy out. -/
theorem held_end :
    Held c A N f0 f1 f2 f3 f4 f5 32 ⊢ iprop((FA c A 0 ∗ FA c A 1 ∗ FA c A 2 ∗ FA c A 3) ∗ (FN c N 0 ∗ FN c N 1) ∗ (FH c N 0 ∗ FH c N 1)
      ∗ (GO c (pay c A N f0 f1 f2 f3 f4 f5) 31 ∗ FO c 0)
      ∗ bigSep (Finset.range 31) (fun j => DO c (pay c A N f0 f1 f2 f3 f4 f5) j) ∗ St c f0 f1 f2 f3 f4 f5 ∗ Ow c) := by
  unfold Held NI SA SN SH
  rw [if_neg (show ¬ 32 < 32 by decide), if_neg (show ¬ 32 + 1 < 32 by decide), if_neg (show ¬ 32 + 2 < 32 by decide), if_pos (show 32 % 8 = 0 by decide),
    if_neg (show ¬ 32 / 8 < 4 by decide), if_neg (show ¬ 32 < 32 by decide), if_neg (show ¬ 32 = 0 by decide),
    show FA c A 32 = FA c A (0 + 32) from rfl, show FA c A (32 + 1) = FA c A (1 + 32) from rfl, show FA c A (32 + 2) = FA c A (2 + 32) from rfl,
    show FA c A (32 + 3) = FA c A (3 + 32) from rfl, FA_32, FA_32, FA_32, FA_32, show FN c N (32 / 8) = FN c N (0 + 4) from rfl,
    show FN c N (32 / 8 + 1) = FN c N (1 + 4) from rfl, FN_4, FN_4, show FH c N 32 = FH c N (0 + 32) from rfl,
    show FH c N (32 + 1) = FH c N (1 + 32) from rfl, FH_32, FH_32, show (FO c 32 : sProp 𝕄) = FO c (0 + 32) from rfl, FO_32]
  iintro ⟨HA, HN, HH, HF, ⟨HR, HD⟩, HS, HW⟩
  isplitl [HA]
  · iexact HA
  isplitl [HN]
  · iexact HN
  isplitl [HH]
  · iexact HH
  isplitl [HF]
  · iexact HF
  isplitl [HD]
  · iexact HD
  isplitl [HS]
  · iexact HS
  · iexact HW

/-- The invariant, opened. -/
theorem inv_elim (k : ℕ) (acc : BitVec 32 × BitVec 32 × BitVec 32 × BitVec 32 × BitVec 32 × BitVec 32 × BitVec 32 × BitVec 32 × BitVec 32 × BitVec 32 × BitVec 32 × BitVec 32) :
    Inv c A N f0 f1 f2 f3 f4 f5 k acc ⊢ iprop(⌜acc = words k⌝ ∗ Held c A N f0 f1 f2 f3 f4 f5 k) := by
  unfold Inv
  iintro H
  iexact H

/-- The words after the last trip. -/
theorem words_32 : words 32 = (w 32, w 32, w 3, w 7, w 4, w 4, w 32, w 32, w 32, w 31, w 0, w 0) := by
  unfold words
  refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_)))))))))) <;> decide +kernel

/-- The loop left: its words, and what is held. -/
theorem inv_end (acc : BitVec 32 × BitVec 32 × BitVec 32 × BitVec 32 × BitVec 32 × BitVec 32 × BitVec 32 × BitVec 32 × BitVec 32 × BitVec 32 × BitVec 32 × BitVec 32) :
    Inv c A N f0 f1 f2 f3 f4 f5 (Scf.trips k0_t1_loop.lb k0_t1_loop.ub k0_t1_loop.st) acc
      ⊢ iprop(⌜acc = (w 32, w 32, w 3, w 7, w 4, w 4, w 32, w 32, w 32, w 31, w 0, w 0)⌝ ∗ Held c A N f0 f1 f2 f3 f4 f5 32) := by
  rw [show Scf.trips k0_t1_loop.lb k0_t1_loop.ub k0_t1_loop.st = 32 by decide +kernel]
  unfold Inv
  rw [words_32]

/-! ## The body -/

/-- The body: from the rings at rest, the staged operands and the result's blocks at some contents, to the rings at rest and
    the result's blocks holding their payloads. -/
theorem body_wp {Q : PUnit → sProp 𝕄} :
    iprop((Rings c A N ∗ bigSep (Finset.Ico 0 32) (fun j => RO c j) ∗ St c f0 f1 f2 f3 f4 f5 ∗ Ow c)
      ∗ ((Rings c A N ∗ bigSep (Finset.range 32) (fun j => DO c (pay c A N f0 f1 f2 f3 f4 f5) j) ∗ St c f0 f1 f2 f3 f4 f5 ∗ Ow c) -∗ Q ⟨⟩))
      ⊢ wp frame (wpE (defs₀ (F := F)) 𝒱₀ (c : Thread nD τ) none) Set.univ (cc0__outer (F := F) adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7) Q := by
  rw [cc0__outer_eq_skeleton]
  unfold cc0__outer_skel
  rw [k0_part8_eq_skeleton, k0_part9_eq_skeleton, k0_part10_eq_skeleton, k0_part11_eq_skeleton, k0_part12_eq_skeleton]
  unfold k0_part8_skel k0_part9_skel k0_part10_skel k0_part11_skel k0_part12_skel
  simp only [Prog.lift, Prog.bind_op, Prog.bind_ret, Prog.pure_eq_ret]
  unfold Rings
  iintro ⟨⟨⟨⟨HA0, HA1, HA2, HA3⟩, ⟨HN0, HN1⟩, ⟨HH0, HH1⟩, HF⟩, HR, HS, HW⟩, HQ⟩
  unfold FA FN FH
  iapply (in_start c (aBlk 0) (aSlot 0) (aSem 0) (qT (0 % 4)) A (aBlk_eq off3_eq _) (aSlot_eq off2_eq _) (congrArg SemLoc.dma (aSem_eq off1_eq _)) (by decide)) $$ HA0
  iintro HA0
  iapply (in_start c (nBlk 0) (nSlot 0) (nSem 0) (qT (0 % 2)) N (nBlk_eq (by decide) _) (nSlot_eq off5_eq _) (congrArg SemLoc.dma (nSem_eq off4_eq _)) (by decide)) $$ HN0
  iintro HN0
  iapply (in_start c (hBlk 0) (hSlot 0) (hSem 0) (qT (2 + 0 % 2)) N (hBlk_eq (by decide) _) (hSlot_eq off6_eq _) (congrArg SemLoc.dma (hSem_eq off4_eq _)) (by decide)) $$ HH0
  iintro HH0
  iapply (wp_call 𝒱₀ (c : Thread nD τ) none Set.univ 1 (fun u hu => nomatch hu))
  iapply (while1_wp c A)
  unfold FA
  isplitl [HA1]
  · iexact HA1
  iintro HA1
  iapply (wp_call 𝒱₀ (c : Thread nD τ) none Set.univ 1 (fun u hu => nomatch hu))
  iapply (while2_wp c A)
  unfold FA
  isplitl [HA2]
  · iexact HA2
  iintro HA2
  rw [wp_bind]
  iapply (Scf.wp_for_bind _ _ Set.univ _ _ _ _ _ _ (Inv c A N f0 f1 f2 f3 f4 f5) (fun k acc => ?_)) $$ [HA0 HA1 HA2 HA3 HN0 HN1 HH0 HH1 HF HR HS HW]
  · iintro HI
    ihave HI := (inv_elim c A N f0 f1 f2 f3 f4 f5 k.val acc) $$ HI
    icases HI with ⟨%e, HI⟩
    subst e
    iapply (trip_wp c A N f0 f1 f2 f3 f4 f5 k _ _ _ _ _ _)
    iexact HI
  · unfold Inv
    isplitr
    · ipureintro
      unfold words
      refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_)))))))))) <;> decide +kernel
    · iapply (held_zero c A N f0 f1 f2 f3 f4 f5)
      unfold GA GN GH FA FN FH
      isplitl [HA0 HA1 HA2 HA3]
      · isplitl [HA0]
        · iexact HA0
        isplitl [HA1]
        · iexact HA1
        isplitl [HA2]
        · iexact HA2
        · iexact HA3
      isplitl [HN0 HN1]
      · isplitl [HN0]
        · iexact HN0
        · iexact HN1
      isplitl [HH0 HH1]
      · isplitl [HH0]
        · iexact HH0
        · iexact HH1
      isplitl [HF]
      · iexact HF
      isplitl [HR]
      · iexact HR
      isplitl [HS]
      · iexact HS
      · iexact HW
  · iintro %acc HI
    ihave HI := (inv_end c A N f0 f1 f2 f3 f4 f5 acc) $$ HI
    icases HI with ⟨%e, HI⟩
    subst e
    ihave HI := (held_end c A N f0 f1 f2 f3 f4 f5) $$ HI
    icases HI with ⟨HA, HN, HH, ⟨HG, HF⟩, HD, HS, HW⟩
    iapply (wp_assume 𝒱₀ (c : Thread nD τ) none Set.univ chk13_ok)
    iapply (wp_assume 𝒱₀ (c : Thread nD τ) none Set.univ chk12_ok)
    rw [wp_ret]
    imodintro
    iapply (o_wait c (pay c A N f0 f1 f2 f3 f4 f5) 31 (oBlk_eq off42_eq _) (oSem_eq off41_eq _)) $$ [HG HW]
    · isplitl [HG]
      · iexact HG
      · iexact HW
    iintro ⟨HD0, HF1, HW⟩
    rw [wp_ret]
    imodintro
    iapply HQ
    unfold FA FN FH
    isplitl [HA HN HH HF HF1]
    · isplitl [HA]
      · iexact HA
      isplitl [HN]
      · iexact HN
      isplitl [HH]
      · iexact HH
      isplitl [HF]
      · iexact HF
      · iapply FO_33
        iexact HF1
    isplitl [HD HD0]
    · iapply (range_join (fun j => DO c (pay c A N f0 f1 f2 f3 f4 f5) j) 32)
      rw [if_neg (show ¬ 32 = 0 by decide)]
      isplitl [HD0]
      · iexact HD0
      · iexact HD
    isplitl [HS]
    · iexact HS
    · iexact HW

end Cert.Proof.K

end
-- ==== Proof.Blocks.lean ====
/-
  The rings' buffers as their slots, and the result as its thirty-two blocks.
-/
module

public import proofs.«01_k».proof.Proof.Body
public import Idealize.ShloMosaic.Lib.Ring.AtN

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

/-- Equal assertions entail each other. -/
theorem ent_eq {P Q : sProp 𝕄} (e : P = Q) : P ⊢ Q := e ▸ .rfl

/-! ## Slots and blocks as sets of elements -/

/-- Sets told apart by a key do not meet. -/
theorem key_disjoint {α : Type} [DecidableEq α] {n : ℕ} (J : Fin n → Finset α) (key : α → ℕ) (h : ∀ b y, y ∈ J b ↔ key y = b.val) :
    ∀ b b', b ≠ b' → Disjoint (J b) (J b') := by
  intro b b' hne
  rw [Finset.disjoint_left]
  intro y hy hy'
  exact hne (Fin.ext (((h b y).mp hy).symm.trans ((h b' y).mp hy')))

/-- Sets that take every value of a key cover everything. -/
theorem key_cover {α : Type} [DecidableEq α] [Fintype α] {n : ℕ} (J : Fin n → Finset α) (key : α → ℕ) (h : ∀ b y, y ∈ J b ↔ key y = b.val) (hk : ∀ y, key y < n) :
    Finset.univ.biUnion J = Finset.univ := by
  ext y
  simp only [Finset.mem_biUnion, Finset.mem_univ, true_and, iff_true]
  exact ⟨⟨key y, hk y⟩, (h _ y).mpr rfl⟩

/-- The four slots of the adjacency's ring. -/
abbrev JA (b : Fin 4) : Finset S4x1x512x4096.Idx := (Rect.unit (s := S4x1x512x4096) (off4 b.val) S1x1x512x4096.size (off4_inb b.val)).set
/-- The two slots of the batch ring. -/
abbrev JN (b : Fin 2) : Finset S2x1x4096x32.Idx := (Rect.unit (s := S2x1x4096x32) (off2 b.val) S1x1x4096x32.size (off2_inb_n b.val)).set
/-- The two slots of a ring of blocks of 512 rows. -/
abbrev JH (b : Fin 2) : Finset S2x1x512x32.Idx := (Rect.unit (s := S2x1x512x32) (off2 b.val) S1x1x512x32.size (off2_inb_h b.val)).set
/-- The thirty-two blocks of the result. -/
abbrev JO (b : Fin 32) : Finset S4x4096x32.Idx := (Rect.unit (s := S4x4096x32) (offB b.val) S1x512x32.size (offB_inb_h b.val)).set

/-- An element of the adjacency ring lies in slot `b` exactly when its first coordinate is `b`. -/
theorem mem_JA (b : Fin 4) (y : S4x1x512x4096.Idx) : y ∈ JA b ↔ (y 0).val = b.val := by
  rw [Rect.mem_set_unit]
  have h1 : (y 1).val < 1 := (y 1).isLt
  have h2 : (y 2).val < 512 := (y 2).isLt
  have h3 : (y 3).val < 4096 := (y 3).isLt
  have hb := b.isLt
  constructor
  · intro H
    have a0 : b.val % 4 ≤ (y 0).val ∧ (y 0).val < b.val % 4 + 1 := H 0
    omega
  · intro H i
    fin_cases i
    · show b.val % 4 ≤ (y 0).val ∧ (y 0).val < b.val % 4 + 1; omega
    · show 0 ≤ (y 1).val ∧ (y 1).val < 0 + 1; omega
    · show 0 ≤ (y 2).val ∧ (y 2).val < 0 + 512; omega
    · show 0 ≤ (y 3).val ∧ (y 3).val < 0 + 4096; omega

/-- An element of the batch ring lies in slot `b` exactly when its first coordinate is `b`. -/
theorem mem_JN (b : Fin 2) (y : S2x1x4096x32.Idx) : y ∈ JN b ↔ (y 0).val = b.val := by
  rw [Rect.mem_set_unit]
  have h1 : (y 1).val < 1 := (y 1).isLt
  have h2 : (y 2).val < 4096 := (y 2).isLt
  have h3 : (y 3).val < 32 := (y 3).isLt
  have hb := b.isLt
  constructor
  · intro H
    have a0 : b.val % 2 ≤ (y 0).val ∧ (y 0).val < b.val % 2 + 1 := H 0
    omega
  · intro H i
    fin_cases i
    · show b.val % 2 ≤ (y 0).val ∧ (y 0).val < b.val % 2 + 1; omega
    · show 0 ≤ (y 1).val ∧ (y 1).val < 0 + 1; omega
    · show 0 ≤ (y 2).val ∧ (y 2).val < 0 + 4096; omega
    · show 0 ≤ (y 3).val ∧ (y 3).val < 0 + 32; omega

/-- An element of a ring of two blocks lies in slot `b` exactly when its first coordinate is `b`. -/
theorem mem_JH (b : Fin 2) (y : S2x1x512x32.Idx) : y ∈ JH b ↔ (y 0).val = b.val := by
  rw [Rect.mem_set_unit]
  have h1 : (y 1).val < 1 := (y 1).isLt
  have h2 : (y 2).val < 512 := (y 2).isLt
  have h3 : (y 3).val < 32 := (y 3).isLt
  have hb := b.isLt
  constructor
  · intro H
    have a0 : b.val % 2 ≤ (y 0).val ∧ (y 0).val < b.val % 2 + 1 := H 0
    omega
  · intro H i
    fin_cases i
    · show b.val % 2 ≤ (y 0).val ∧ (y 0).val < b.val % 2 + 1; omega
    · show 0 ≤ (y 1).val ∧ (y 1).val < 0 + 1; omega
    · show 0 ≤ (y 2).val ∧ (y 2).val < 0 + 512; omega
    · show 0 ≤ (y 3).val ∧ (y 3).val < 0 + 32; omega

/-- The block of an element of the result. -/
def blkOf (y : S4x4096x32.Idx) : ℕ := (y 0).val * 8 + (y 1).val / 512
/-- The element's place in its block. -/
def locOf (y : S4x4096x32.Idx) : S1x512x32.Idx := fun a => match a with
  | ⟨0, _⟩ => ⟨0, Nat.one_pos⟩
  | ⟨1, _⟩ => ⟨(y 1).val % 512, Nat.mod_lt _ (by decide)⟩
  | ⟨2, _⟩ => ⟨(y 2).val, (y 2).isLt⟩

/-- There are 32 blocks. -/
theorem blkOf_lt (y : S4x4096x32.Idx) : blkOf y < 32 := by
  have h0 : (y 0).val < 4 := (y 0).isLt
  have h1 : (y 1).val < 4096 := (y 1).isLt
  unfold blkOf; omega

/-- An element of the result lies in block `b` exactly when its block is `b`. -/
theorem mem_JO (b : Fin 32) (y : S4x4096x32.Idx) : y ∈ JO b ↔ blkOf y = b.val := by
  rw [Rect.mem_set_unit]
  have h0 : (y 0).val < 4 := (y 0).isLt
  have h1 : (y 1).val < 4096 := (y 1).isLt
  have h2 : (y 2).val < 32 := (y 2).isLt
  have hb := b.isLt
  unfold blkOf
  constructor
  · intro H
    have a0 : b.val / 8 % 4 ≤ (y 0).val ∧ (y 0).val < b.val / 8 % 4 + 1 := H 0
    have a1 : 512 * (b.val % 8) ≤ (y 1).val ∧ (y 1).val < 512 * (b.val % 8) + 512 := H 1
    omega
  · intro H i
    fin_cases i
    · show b.val / 8 % 4 ≤ (y 0).val ∧ (y 0).val < b.val / 8 % 4 + 1; omega
    · show 512 * (b.val % 8) ≤ (y 1).val ∧ (y 1).val < 512 * (b.val % 8) + 512; omega
    · show 0 ≤ (y 2).val ∧ (y 2).val < 0 + 32; omega

/-- The elements of a slot of the adjacency ring. -/
theorem aSlot_set (b : Fin 4) : (aSlot b.val).view.set = JA b := by unfold aSlot; exact (View.set_reshape _ _).trans (View.set_slice_whole _ _)
/-- The elements of a slot of the batch ring. -/
theorem nSlot_set (b : Fin 2) : (nSlot b.val).view.set = JN b := by unfold nSlot; exact (View.set_reshape _ _).trans (View.set_slice_whole _ _)
/-- The elements of a slot of the ring of own annotations. -/
theorem hSlot_set (b : Fin 2) : (hSlot b.val).view.set = JH b := by unfold hSlot; exact (View.set_reshape _ _).trans (View.set_slice_whole _ _)
/-- The elements of a slot of the result ring. -/
theorem oSlot_set (b : Fin 2) : (oSlot b.val).view.set = JH b := by unfold oSlot; exact (View.set_reshape _ _).trans (View.set_slice_whole _ _)
/-- The elements of a block of the result. -/
theorem oBlk_set (b : Fin 32) : (oBlk b.val).view.set = JO b := by unfold oBlk; exact View.set_slice_whole _ _

/-- Different slots of the adjacency ring share no element. -/
theorem JA_disjoint : ∀ b b', b ≠ b' → Disjoint (JA b) (JA b') := key_disjoint JA (fun y => (y 0).val) mem_JA
/-- The slots of the adjacency ring hold every element. -/
theorem JA_cover : Finset.univ.biUnion JA = Finset.univ := key_cover JA (fun y => (y 0).val) mem_JA (fun y => (y 0).isLt)
/-- Different slots of the batch ring share no element. -/
theorem JN_disjoint : ∀ b b', b ≠ b' → Disjoint (JN b) (JN b') := key_disjoint JN (fun y => (y 0).val) mem_JN
/-- The slots of the batch ring hold every element. -/
theorem JN_cover : Finset.univ.biUnion JN = Finset.univ := key_cover JN (fun y => (y 0).val) mem_JN (fun y => (y 0).isLt)
/-- Different slots of a ring of two blocks share no element. -/
theorem JH_disjoint : ∀ b b', b ≠ b' → Disjoint (JH b) (JH b') := key_disjoint JH (fun y => (y 0).val) mem_JH
/-- The slots of a ring of two blocks hold every element. -/
theorem JH_cover : Finset.univ.biUnion JH = Finset.univ := key_cover JH (fun y => (y 0).val) mem_JH (fun y => (y 0).isLt)
/-- Different blocks of the result share no element. -/
theorem JO_disjoint : ∀ b b', b ≠ b' → Disjoint (JO b) (JO b') := key_disjoint JO blkOf mem_JO
/-- The blocks of the result hold every element. -/
theorem JO_cover : Finset.univ.biUnion JO = Finset.univ := key_cover JO blkOf mem_JO blkOf_lt

/-! ## The rings' buffers and their slots -/

variable (c : Dev nD)

/-- A slot at some contents. -/
abbrev AtSome {s : Shape} (D : Memref sig .tc .vmem s .f32) : sProp 𝕄 :=
  iprop(∃ d : Buf (Elt F) (D.view.loc (c : Thread nD τ)), (D.view.loc (c : Thread nD τ) ↦[D.view.set]{fullShare} d))
/-- A buffer at some contents. -/
abbrev BufSome (b : Ref sig .tc) : sProp 𝕄 := iprop(∃ f : Buf (Elt F) ((c : Thread nD τ).loc b), ((c : Thread nD τ).loc b) ↦{fullShare} f)

/-- The adjacency ring held whole is its slots held one by one. -/
theorem aR_split : BufSome (F := F) c cc0_scoped0 ⊢ iprop(AtSome c (aSlot 0) ∗ AtSome c (aSlot 1) ∗ AtSome c (aSlot 2) ∗ AtSome c (aSlot 3)) :=
  Ring.slots4_split (ℓ := (c : Thread nD τ).loc cc0_scoped0) JA JA_disjoint JA_cover _ _ _ _
    (fun f => congrArg (fun S => (_ ↦[S]{fullShare} f : sProp 𝕄)) (aSlot_set 0)) (fun f => congrArg (fun S => (_ ↦[S]{fullShare} f : sProp 𝕄)) (aSlot_set 1))
    (fun f => congrArg (fun S => (_ ↦[S]{fullShare} f : sProp 𝕄)) (aSlot_set 2)) (fun f => congrArg (fun S => (_ ↦[S]{fullShare} f : sProp 𝕄)) (aSlot_set 3))
/-- The slots of the adjacency ring held one by one are the ring held whole. -/
theorem aR_join : iprop(AtSome (F := F) c (aSlot 0) ∗ AtSome c (aSlot 1) ∗ AtSome c (aSlot 2) ∗ AtSome c (aSlot 3)) ⊢ BufSome c cc0_scoped0 :=
  Ring.slots4_join (ℓ := (c : Thread nD τ).loc cc0_scoped0) JA JA_disjoint JA_cover _ _ _ _
    (fun f => congrArg (fun S => (_ ↦[S]{fullShare} f : sProp 𝕄)) (aSlot_set 0)) (fun f => congrArg (fun S => (_ ↦[S]{fullShare} f : sProp 𝕄)) (aSlot_set 1))
    (fun f => congrArg (fun S => (_ ↦[S]{fullShare} f : sProp 𝕄)) (aSlot_set 2)) (fun f => congrArg (fun S => (_ ↦[S]{fullShare} f : sProp 𝕄)) (aSlot_set 3))
/-- The batch ring held whole is its slots held one by one. -/
theorem nR_split : BufSome (F := F) c cc0_scoped2 ⊢ iprop(AtSome c (nSlot 0) ∗ AtSome c (nSlot 1)) :=
  Ring.slots2_split (ℓ := (c : Thread nD τ).loc cc0_scoped2) JN JN_disjoint JN_cover _ _
    (fun f => congrArg (fun S => (_ ↦[S]{fullShare} f : sProp 𝕄)) (nSlot_set 0)) (fun f => congrArg (fun S => (_ ↦[S]{fullShare} f : sProp 𝕄)) (nSlot_set 1))
/-- The slots of the batch ring held one by one are the ring held whole. -/
theorem nR_join : iprop(AtSome (F := F) c (nSlot 0) ∗ AtSome c (nSlot 1)) ⊢ BufSome c cc0_scoped2 :=
  Ring.slots2_join (ℓ := (c : Thread nD τ).loc cc0_scoped2) JN JN_disjoint JN_cover _ _
    (fun f => congrArg (fun S => (_ ↦[S]{fullShare} f : sProp 𝕄)) (nSlot_set 0)) (fun f => congrArg (fun S => (_ ↦[S]{fullShare} f : sProp 𝕄)) (nSlot_set 1))
/-- The ring of own annotations held whole is its slots held one by one. -/
theorem hR_split : BufSome (F := F) c cc0_scoped4 ⊢ iprop(AtSome c (hSlot 0) ∗ AtSome c (hSlot 1)) :=
  Ring.slots2_split (ℓ := (c : Thread nD τ).loc cc0_scoped4) JH JH_disjoint JH_cover _ _
    (fun f => congrArg (fun S => (_ ↦[S]{fullShare} f : sProp 𝕄)) (hSlot_set 0)) (fun f => congrArg (fun S => (_ ↦[S]{fullShare} f : sProp 𝕄)) (hSlot_set 1))
/-- The slots of the ring of own annotations held one by one are the ring held whole. -/
theorem hR_join : iprop(AtSome (F := F) c (hSlot 0) ∗ AtSome c (hSlot 1)) ⊢ BufSome c cc0_scoped4 :=
  Ring.slots2_join (ℓ := (c : Thread nD τ).loc cc0_scoped4) JH JH_disjoint JH_cover _ _
    (fun f => congrArg (fun S => (_ ↦[S]{fullShare} f : sProp 𝕄)) (hSlot_set 0)) (fun f => congrArg (fun S => (_ ↦[S]{fullShare} f : sProp 𝕄)) (hSlot_set 1))
/-- The result ring held whole is its slots held one by one. -/
theorem oR_split : BufSome (F := F) c cc0_scoped6 ⊢ iprop(AtSome c (oSlot 0) ∗ AtSome c (oSlot 1)) :=
  Ring.slots2_split (ℓ := (c : Thread nD τ).loc cc0_scoped6) JH JH_disjoint JH_cover _ _
    (fun f => congrArg (fun S => (_ ↦[S]{fullShare} f : sProp 𝕄)) (oSlot_set 0)) (fun f => congrArg (fun S => (_ ↦[S]{fullShare} f : sProp 𝕄)) (oSlot_set 1))
/-- The slots of the result ring held one by one are the ring held whole. -/
theorem oR_join : iprop(AtSome (F := F) c (oSlot 0) ∗ AtSome c (oSlot 1)) ⊢ BufSome c cc0_scoped6 :=
  Ring.slots2_join (ℓ := (c : Thread nD τ).loc cc0_scoped6) JH JH_disjoint JH_cover _ _
    (fun f => congrArg (fun S => (_ ↦[S]{fullShare} f : sProp 𝕄)) (oSlot_set 0)) (fun f => congrArg (fun S => (_ ↦[S]{fullShare} f : sProp 𝕄)) (oSlot_set 1))

/-! ## The result and its blocks -/

/-- The blocks by number. -/
theorem blocks_nat (Φ : ℕ → sProp 𝕄) : bigSep (Finset.univ : Finset (Fin 32)) (fun b => Φ b.val) = bigSep (Finset.range 32) Φ := by
  have e : Finset.range 32 = (Finset.univ : Finset (Fin 32)).map Fin.valEmbedding := by
    ext i
    simp only [Finset.mem_range, Finset.mem_map, Finset.mem_univ, true_and, Fin.valEmbedding_apply]
    exact ⟨fun h => ⟨⟨i, h⟩, rfl⟩, fun ⟨b, hb⟩ => hb ▸ b.isLt⟩
  rw [e, bigSep_map]
  rfl

/-- A block's elements are the block at some contents. -/
theorem res_block (f : Buf (Elt F) ((c : Thread nD τ).loc main_v2)) (b : Fin 32) :
    (((c : Thread nD τ).loc main_v2 ↦[JO b]{fullShare} f : sProp 𝕄)) ⊢ RO c b.val := by
  unfold RO
  iintro H
  iexists f
  iapply (ent_eq (congrArg (fun S => ((c : Thread nD τ).loc main_v2 ↦[S]{fullShare} f : sProp 𝕄)) (oBlk_set b).symm))
  iexact H

/-- The result at some contents is its blocks at some contents. -/
theorem res_split (f : Buf (Elt F) ((c : Thread nD τ).loc main_v2)) :
    (((c : Thread nD τ).loc main_v2 ↦{fullShare} f : sProp 𝕄)) ⊢ bigSep (Finset.Ico 0 32) (fun j => RO c j) := by
  rw [Nat.Ico_zero_eq_range, ← blocks_nat, Ring.pointsTo_blocks (ℓ := (c : Thread nD τ).loc main_v2) JO JO_disjoint JO_cover f]
  exact bigSep_mono fun b _ => res_block c f b

/-- The result whose block `j` is `P j`. -/
def glue (P : ℕ → S1x512x32.Idx → Elt F .f32) : Buf (Elt F) ((c : Thread nD τ).loc main_v2) := fun y => P (blkOf y) (locOf y)

/-- An element of block `j` is read at its place in the block. -/
theorem read_blk (b : Fin 32) (d : Buf (Elt F) ((c : Thread nD τ).loc main_v2)) (y : S4x4096x32.Idx) (hy : blkOf y = b.val) :
    (oBlk b.val).view.read (Elt F) d (locOf y) = d y := by
  have h0 : (y 0).val < 4 := (y 0).isLt
  have h1 : (y 1).val < 4096 := (y 1).isLt
  have hb := b.isLt
  unfold blkOf at hy
  have e : (Rect.unit (s := S4x4096x32) (offB b.val) S1x512x32.size (offB_inb_h b.val)).emb (locOf y) = y := by
    funext a
    apply Fin.ext
    fin_cases a
    · show b.val / 8 % 4 + 1 * 0 = (y 0).val; omega
    · show 512 * (b.val % 8) + 1 * ((y 1).val % 512) = (y 1).val; omega
    · show 0 + 1 * (y 2).val = (y 2).val; omega
  exact congrArg d e

/-- A block done is the whole result's elements of that block. -/
theorem done_block (P : ℕ → S1x512x32.Idx → Elt F .f32) (b : Fin 32) :
    DO c P b.val ⊢ (((c : Thread nD τ).loc main_v2 ↦[JO b]{fullShare} glue c P : sProp 𝕄)) := by
  unfold DO
  iintro ⟨%d, H, %hd⟩
  iapply (ent_eq (pointsTo_congr (ℓ := (c : Thread nD τ).loc main_v2) (q := fullShare) (I := JO b) (f := d) (g := glue c P) fun y hy => by
    have e := (mem_JO b y).mp hy
    rw [← read_blk c b d y e, hd]
    unfold glue
    rw [e]))
  iapply (ent_eq (congrArg (fun S => ((c : Thread nD τ).loc main_v2 ↦[S]{fullShare} d : sProp 𝕄)) (oBlk_set b)))
  iexact H

/-- The blocks done are the result whole. -/
theorem res_join (P : ℕ → S1x512x32.Idx → Elt F .f32) :
    bigSep (Finset.range 32) (fun j => DO c P j) ⊢ (((c : Thread nD τ).loc main_v2 ↦{fullShare} glue c P : sProp 𝕄)) := by
  rw [← blocks_nat, Ring.pointsTo_blocks (ℓ := (c : Thread nD τ).loc main_v2) JO JO_disjoint JO_cover (glue c P)]
  exact bigSep_mono fun b _ => done_block c P b

/-! ## The rings, from their buffers, their cells and shares of the arrays read -/

variable (A : Buf (Elt F) ((c : Thread nD τ).loc main_arg0)) (N : Buf (Elt F) ((c : Thread nD τ).loc main_arg1))

/-- What the rings are made of: their buffers at some contents, their cells at zero and the two arrays read. -/
def Stock (f : Buf (Elt F) ((c : Thread nD τ).loc main_arg0)) (g : Buf (Elt F) ((c : Thread nD τ).loc main_arg1)) : sProp 𝕄 :=
  iprop((BufSome c cc0_scoped0 ∗ BufSome c cc0_scoped2 ∗ BufSome c cc0_scoped4 ∗ BufSome c cc0_scoped6)
    ∗ (semVal ((c : Thread nD τ), SemLoc.dma (aSem 0)) 0 ∗ semVal ((c : Thread nD τ), SemLoc.dma (aSem 1)) 0 ∗ semVal ((c : Thread nD τ), SemLoc.dma (aSem 2)) 0 ∗ semVal ((c : Thread nD τ), SemLoc.dma (aSem 3)) 0
      ∗ semVal ((c : Thread nD τ), SemLoc.dma (nSem 0)) 0 ∗ semVal ((c : Thread nD τ), SemLoc.dma (nSem 1)) 0
      ∗ semVal ((c : Thread nD τ), SemLoc.dma (hSem 0)) 0 ∗ semVal ((c : Thread nD τ), SemLoc.dma (hSem 1)) 0
      ∗ semVal ((c : Thread nD τ), SemLoc.dma (oSem 0)) 0 ∗ semVal ((c : Thread nD τ), SemLoc.dma (oSem 1)) 0)
    ∗ (((c : Thread nD τ).loc main_arg0) ↦{fullShare} f) ∗ (((c : Thread nD τ).loc main_arg1) ↦{fullShare} g))

/-- The shares of the two arrays that no fetch takes. -/
def Kept : sProp 𝕄 :=
  iprop((((c : Thread nD τ).loc main_arg0) ↦{Transfers.shareDrop fullShare 4} A) ∗ (((c : Thread nD τ).loc main_arg1) ↦{Transfers.shareDrop fullShare 4} N))

/-- Four shares of an array and the rest. -/
theorem toks4 {b : Ref sig .tc} (f : Buf (Elt F) ((c : Thread nD τ).loc b)) :
    (((c : Thread nD τ).loc b) ↦{fullShare} f : sProp 𝕄)
      ⊢ iprop((((c : Thread nD τ).loc b) ↦{Transfers.shareDrop fullShare 4} f) ∗ (((c : Thread nD τ).loc b) ↦{qT 0} f) ∗ (((c : Thread nD τ).loc b) ↦{qT 1} f) ∗ (((c : Thread nD τ).loc b) ↦{qT 2} f) ∗ (((c : Thread nD τ).loc b) ↦{qT 3} f)) := by
  refine BI.Entails.trans (Transfers.pointsTo_toks_split fullShare 4) ?_
  rw [bigSep_univ_eq_bigSepL [(0 : Fin 4), 1, 2, 3] (by decide) (by decide)]
  exact BI.Entails.refl _
/-- The four shares that transfers may take of an array, and what is left of it, are the whole of it. -/
theorem toks4_join {b : Ref sig .tc} (f : Buf (Elt F) ((c : Thread nD τ).loc b)) :
    iprop((((c : Thread nD τ).loc b) ↦{Transfers.shareDrop fullShare 4} f) ∗ (((c : Thread nD τ).loc b) ↦{qT 0} f) ∗ (((c : Thread nD τ).loc b) ↦{qT 1} f) ∗ (((c : Thread nD τ).loc b) ↦{qT 2} f) ∗ (((c : Thread nD τ).loc b) ↦{qT 3} f))
      ⊢ (((c : Thread nD τ).loc b) ↦{fullShare} f : sProp 𝕄) := by
  refine BI.Entails.trans ?_ (Transfers.pointsTo_toks_join fullShare 4)
  rw [bigSep_univ_eq_bigSepL [(0 : Fin 4), 1, 2, 3] (by decide) (by decide)]
  exact BI.Entails.refl _

/-- The rings free, from the stock. -/
theorem rings_split : Stock c A N ⊢ iprop(Rings c A N ∗ Kept c A N) := by
  unfold Stock Rings Kept FA FN FH FO InFree
  iintro ⟨⟨B0, B2, B4, B6⟩, ⟨S0, S1, S2, S3, S4, S5, S6, S7, S8, S9⟩, HA, HN⟩
  ihave ⟨A0, A1, A2, A3⟩ := (aR_split c) $$ B0
  ihave ⟨N0, N1⟩ := (nR_split c) $$ B2
  ihave ⟨H0, H1⟩ := (hR_split c) $$ B4
  ihave ⟨O0, O1⟩ := (oR_split c) $$ B6
  ihave ⟨KA, TA0, TA1, TA2, TA3⟩ := (toks4 c A) $$ HA
  ihave ⟨KN, TN0, TN1, TN2, TN3⟩ := (toks4 c N) $$ HN
  isplitr [KA KN]
  · isplitl [A0 A1 A2 A3 S0 S1 S2 S3 TA0 TA1 TA2 TA3]
    · isplitl [A0 S0 TA0]
      · iframe A0; iframe S0; iexact TA0
      · isplitl [A1 S1 TA1]
        · iframe A1; iframe S1; iexact TA1
        · isplitl [A2 S2 TA2]
          · iframe A2; iframe S2; iexact TA2
          · iframe A3; iframe S3; iexact TA3
    · isplitl [N0 N1 S4 S5 TN0 TN1]
      · isplitl [N0 S4 TN0]
        · iframe N0; iframe S4; iexact TN0
        · iframe N1; iframe S5; iexact TN1
      · isplitl [H0 H1 S6 S7 TN2 TN3]
        · isplitl [H0 S6 TN2]
          · iframe H0; iframe S6; iexact TN2
          · iframe H1; iframe S7; iexact TN3
        · isplitl [O0 S8]
          · iframe O0; iexact S8
          · iframe O1; iexact S9
  · isplitl [KA]
    · iexact KA
    · iexact KN

/-- The stock back, from the rings free. -/
theorem rings_join : iprop(Rings c A N ∗ Kept c A N) ⊢ Stock c A N := by
  unfold Stock Rings Kept FA FN FH FO InFree
  iintro ⟨⟨⟨⟨A0, S0, TA0⟩, ⟨A1, S1, TA1⟩, ⟨A2, S2, TA2⟩, ⟨A3, S3, TA3⟩⟩, ⟨⟨N0, S4, TN0⟩, ⟨N1, S5, TN1⟩⟩, ⟨⟨H0, S6, TN2⟩, ⟨H1, S7, TN3⟩⟩, ⟨⟨O0, S8⟩, ⟨O1, S9⟩⟩⟩, KA, KN⟩
  isplitl [A0 A1 A2 A3 N0 N1 H0 H1 O0 O1]
  · isplitl [A0 A1 A2 A3]
    · iapply (aR_join c); iframe A0; iframe A1; iframe A2; iexact A3
    · isplitl [N0 N1]
      · iapply (nR_join c); iframe N0; iexact N1
      · isplitl [H0 H1]
        · iapply (hR_join c); iframe H0; iexact H1
        · iapply (oR_join c); iframe O0; iexact O1
  · isplitl [S0 S1 S2 S3 S4 S5 S6 S7 S8 S9]
    · iframe S0; iframe S1; iframe S2; iframe S3; iframe S4; iframe S5; iframe S6; iframe S7; iframe S8; iexact S9
    · isplitl [KA TA0 TA1 TA2 TA3]
      · iapply (toks4_join c A)
        isplitl [KA]
        · iexact KA
        · isplitl [TA0]
          · iexact TA0
          · isplitl [TA1]
            · iexact TA1
            · isplitl [TA2]
              · iexact TA2
              · iexact TA3
      · iapply (toks4_join c N)
        isplitl [KN]
        · iexact KN
        · isplitl [TN0]
          · iexact TN0
          · isplitl [TN1]
            · iexact TN1
            · isplitl [TN2]
              · iexact TN2
              · iexact TN3

end Cert.Proof.K

end
-- ==== Proof.Launch.lean ====
/-
  The kernel's call: its proof data, its body's obligation, and the run of the whole program.
-/
module

public import proofs.«01_k».proof.Proof.Blocks
public import Idealize.ShloMosaic.Lib.Pipeline.Routed
public import Idealize.ShloMosaic.Lib.Pipeline.FrameBody
public import Idealize.ShloMosaic.Lib.StableHlo.RunRead

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents the kernel is entered with -/

/-- The contents at the kernel's entry: the arguments, and the two of them reshaped. -/
abbrev V (c : Dev nD) (b : Ref sig .tc) : Buf (Elt F) ((c.tc : Thread nD τ).loc b) := StableHlo.after hostOps0 (fun b => m (c, b)) b

/-- The reshapes write neither the arguments nor the result. -/
theorem V_of (c : Dev nD) (b : Ref sig .tc) (h0 : b ≠ main_v0) (h1 : b ≠ main_v1) : V m c b = m ((c.tc : Thread nD τ).loc b) :=
  StableHlo.after_unwritten [main_v0, main_v1] rfl (by simp [h0, h1]) _

/-- Window `w`'s block. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The contents of the windows' buffers at the body's one point. -/
def st0 (c : Dev nD) : Buf (Elt F) ((c : Thread nD τ).loc cc0_stg0_0) := iblk m c 0 t0_0
/-- What the second window's buffer holds. -/
def st1 (c : Dev nD) : Buf (Elt F) ((c : Thread nD τ).loc cc0_stg1_0) := iblk m c 1 t0_0
/-- What the third window's buffer holds. -/
def st2 (c : Dev nD) : Buf (Elt F) ((c : Thread nD τ).loc cc0_stg2_0) := iblk m c 2 t0_0
/-- What the fourth window's buffer holds. -/
def st3 (c : Dev nD) : Buf (Elt F) ((c : Thread nD τ).loc cc0_stg3_0) := iblk m c 3 t0_0
/-- What the fifth window's buffer holds. -/
def st4 (c : Dev nD) : Buf (Elt F) ((c : Thread nD τ).loc cc0_stg4_0) := iblk m c 4 t0_0
/-- What the sixth window's buffer holds. -/
def st5 (c : Dev nD) : Buf (Elt F) ((c : Thread nD τ).loc cc0_stg5_0) := iblk m c 5 t0_0

/-- Block `j`'s payload, from the contents at the kernel's entry. -/
def payM (c : Dev nD) : ℕ → S1x512x32.Idx → Elt F .f32 :=
  pay c (V m c main_arg0) (V m c main_arg1) (st0 m c) (st1 m c) (st2 m c) (st3 m c) (st4 m c) (st5 m c)

/-- The result's contents at the end. -/
def outM (c : Dev nD) : Buf (Elt F) ((c.tc : Thread nD τ).loc main_v2) := glue c (payM m c)

/-- The contents at the kernel's end. -/
def Y (c : Dev nD) : (b : Ref sig .tc) → Buf (Elt F) ((c.tc : Thread nD τ).loc b) := Function.update (V m c) main_v2 (outM m c)

/-- At the end the result holds the glued payloads. -/
theorem Y_out (c : Dev nD) : Y m c main_v2 = outM m c := Function.update_self ..
/-- At the end every other array is as at the entry. -/
theorem Y_of (c : Dev nD) (b : Ref sig .tc) (h : b ≠ main_v2) : Y m c b = V m c b := Function.update_of_ne h ..

/-! ## The kernel's own buffers and cells -/

/-- The arrays the body transfers from and to. -/
abbrev Rt : Finset (Ref sig .tc) := {main_arg0, main_arg1, main_v2}
/-- The arrays that the body moves by itself are none of the windows'. -/
theorem Rt_sub : Rt ⊆ Pipeline.restRefs sig spec0 := by decide

/-- The body's own cells. -/
abbrev osem0 : Fin 10 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15] : Fin 10 → SemLoc sig) j
/-- The body's own semaphores are none of the windows'. -/
theorem ownSemFacts0 : Pipeline.OwnSemFacts spec0 osem0 := by decide

/-- The arrays that the body moves by itself, spelt out. -/
theorem routed_eq (c : Dev nD) (W : (b : Ref sig .tc) → Buf (Elt F) ((c.tc : Thread nD τ).loc b)) :
    (Pipeline.routed Rt c W : sProp 𝕄) = iprop((((c : Thread nD τ).loc main_arg0) ↦{fullShare} W main_arg0) ∗ (((c : Thread nD τ).loc main_arg1) ↦{fullShare} W main_arg1) ∗ (((c : Thread nD τ).loc main_v2) ↦{fullShare} W main_v2)) :=
  BI.bigSep_eq_bigSepL_of_eq (S := Rt) [main_arg0, main_arg1, main_v2] (by decide) (by decide) fun b => ((c.tc : Thread nD τ).loc b) ↦{fullShare} W b

/-- The body's own semaphores, spelt out. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (aSem 0)) 0 ∗ semVal ((c : Thread nD τ), SemLoc.dma (aSem 1)) 0 ∗ semVal ((c : Thread nD τ), SemLoc.dma (aSem 2)) 0 ∗ semVal ((c : Thread nD τ), SemLoc.dma (aSem 3)) 0
      ∗ semVal ((c : Thread nD τ), SemLoc.dma (nSem 0)) 0 ∗ semVal ((c : Thread nD τ), SemLoc.dma (nSem 1)) 0
      ∗ semVal ((c : Thread nD τ), SemLoc.dma (hSem 0)) 0 ∗ semVal ((c : Thread nD τ), SemLoc.dma (hSem 1)) 0
      ∗ semVal ((c : Thread nD τ), SemLoc.dma (oSem 0)) 0 ∗ semVal ((c : Thread nD τ), SemLoc.dma (oSem 1)) 0) := by
  rw [Pipeline.ownSems0_eq_of_list c osem0 [0, 1, 2, 3, 4, 5, 6, 7, 8, 9] (by decide) (by decide)]; rfl

/-- What the body takes and gives back, the arrays it transfers from and to at contents `W`. -/
abbrev EndsW (c : Dev nD) (W : (b : Ref sig .tc) → Buf (Elt F) ((c.tc : Thread nD τ).loc b)) : sProp 𝕄 := Pipeline.Ends spec0 osem0 Rt c W

/-- What the launch hands to the body besides the windows, spelt out. -/
theorem ends_open (c : Dev nD) (W : (b : Ref sig .tc) → Buf (Elt F) ((c.tc : Thread nD τ).loc b)) :
    EndsW c W ⊢ iprop(Stock c (W main_arg0) (W main_arg1) ∗ (((c : Thread nD τ).loc main_v2) ↦{fullShare} W main_v2) ∗ ∃ r, prngReg c r) := by
  unfold EndsW Pipeline.Ends Stock
  rw [routed_eq, ownSems_eq, scopedRest0_eq]
  iintro ⟨⟨HA, HN, HO⟩, HS, HB, HP⟩
  isplitr [HO HP]
  · isplitl [HB]
    · iexact HB
    · isplitl [HS]
      · iexact HS
      · isplitl [HA]
        · iexact HA
        · iexact HN
  · isplitl [HO]
    · iexact HO
    · iexact HP

/-- And the same put back together. -/
theorem ends_close (c : Dev nD) (W : (b : Ref sig .tc) → Buf (Elt F) ((c.tc : Thread nD τ).loc b)) :
    iprop(Stock c (W main_arg0) (W main_arg1) ∗ (((c : Thread nD τ).loc main_v2) ↦{fullShare} W main_v2) ∗ ∃ r, prngReg c r) ⊢ EndsW c W := by
  unfold EndsW Pipeline.Ends Stock
  rw [routed_eq, ownSems_eq, scopedRest0_eq]
  iintro ⟨⟨HB, HS, HA, HN⟩, HO, HP⟩
  isplitl [HA HN HO]
  · isplitl [HA]
    · iexact HA
    · isplitl [HN]
      · iexact HN
      · iexact HO
  · isplitl [HS]
    · iexact HS
    · isplitl [HB]
      · iexact HB
      · iexact HP

/-! ## The proof data of the call -/

/-- The windows' arrays at the entry's contents, every staged block left as fetched, the body's own buffers before and
    after the one point. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := if t.val = 0 then EndsW c (V m c) else EndsW c (Y m c)
  q _ := fullShare
  owed _ := 0

/-- A window's array holds what it held at the entry. -/
theorem A_eq (c : Dev nD) (w : Fin (cfg0 (F := F)).W) : (dats m 0 c).A w = V m c (Pipeline.arrRef spec0 w) := by
  dsimp only [dats]

/-- The first window's buffer holds its block when the body begins. -/
theorem before0 (c : Dev nD) (d) : (dats m 0 c).before 0 t0_0 d = iblk m c 0 t0_0 := by
  unfold Dat.before; rw [if_pos (fetch0_0 t0_0)]; unfold Dat.fetched Dat.blockOf iblk; dsimp only [dats]; rfl
/-- The second window's buffer holds its block when the body begins. -/
theorem before1 (c : Dev nD) (d) : (dats m 0 c).before 1 t0_0 d = iblk m c 1 t0_0 := by
  unfold Dat.before; rw [if_pos (fetch0_1 t0_0)]; unfold Dat.fetched Dat.blockOf iblk; dsimp only [dats]; rfl
/-- The third window's buffer holds its block when the body begins. -/
theorem before2 (c : Dev nD) (d) : (dats m 0 c).before 2 t0_0 d = iblk m c 2 t0_0 := by
  unfold Dat.before; rw [if_pos (fetch0_2 t0_0)]; unfold Dat.fetched Dat.blockOf iblk; dsimp only [dats]; rfl
/-- The fourth window's buffer holds its block when the body begins. -/
theorem before3 (c : Dev nD) (d) : (dats m 0 c).before 3 t0_0 d = iblk m c 3 t0_0 := by
  unfold Dat.before; rw [if_pos (fetch0_3 t0_0)]; unfold Dat.fetched Dat.blockOf iblk; dsimp only [dats]; rfl
/-- The fifth window's buffer holds its block when the body begins. -/
theorem before4 (c : Dev nD) (d) : (dats m 0 c).before 4 t0_0 d = iblk m c 4 t0_0 := by
  unfold Dat.before; rw [if_pos (fetch0_4 t0_0)]; unfold Dat.fetched Dat.blockOf iblk; dsimp only [dats]; rfl
/-- The sixth window's buffer holds its block when the body begins. -/
theorem before5 (c : Dev nD) (d) : (dats m 0 c).before 5 t0_0 d = iblk m c 5 t0_0 := by
  unfold Dat.before; rw [if_pos (fetch0_5 t0_0)]; unfold Dat.fetched Dat.blockOf iblk; dsimp only [dats]; rfl

/-- The staged blocks at the one point. -/
abbrev StM (c : Dev nD) : sProp 𝕄 := St c (st0 m c) (st1 m c) (st2 m c) (st3 m c) (st4 m c) (st5 m c)

/-- The body from the entry's contents to the end's. -/
theorem body_run (c : Dev nD) {Q : PUnit → sProp 𝕄} :
    iprop((EndsW c (V m c) ∗ StM m c ∗ Ow c) ∗ ((EndsW c (Y m c) ∗ StM m c ∗ Ow c) -∗ Q ⟨⟩))
      ⊢ wp frame (wpE (defs₀ (F := F)) 𝒱₀ (c : Thread nD τ) none) Set.univ (cc0__outer (F := F) adjM (Memref.isWhole_whole _) annM (Memref.isWhole_whole _) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) resM (Memref.isWhole_whole _) aR (Memref.isWhole_whole _) cc0_scoped1 nR (Memref.isWhole_whole _) cc0_scoped3 hR (Memref.isWhole_whole _) cc0_scoped5 oR (Memref.isWhole_whole _) cc0_scoped7) Q := by
  have eA : Y m c main_arg0 = V m c main_arg0 := Y_of m c _ (by decide)
  have eN : Y m c main_arg1 = V m c main_arg1 := Y_of m c _ (by decide)
  have eO : Y m c main_v2 = glue c (payM m c) := Y_out m c
  have hc := ends_close c (Y m c)
  rw [eA, eN, eO] at hc
  iintro ⟨⟨HE, HS, HW⟩, HQ⟩
  ihave ⟨HK, HO, HP⟩ := (ends_open c (V m c)) $$ HE
  ihave ⟨HR, HK⟩ := (rings_split c _ _) $$ HK
  ihave HO := (res_split c _) $$ HO
  iapply (body_wp c (V m c main_arg0) (V m c main_arg1) (st0 m c) (st1 m c) (st2 m c) (st3 m c) (st4 m c) (st5 m c))
  isplitl [HR HO HS HW]
  · isplitl [HR]
    · iexact HR
    · isplitl [HO]
      · iexact HO
      · isplitl [HS]
        · iexact HS
        · iexact HW
  · iintro ⟨HR, HD, HS, HW⟩
    iapply HQ
    isplitr [HS HW]
    · iapply hc
      isplitl [HR HK]
      · iapply (rings_join c _ _)
        isplitl [HR]
        · iexact HR
        · iexact HK
      · isplitl [HD]
        · iapply (res_join c (payM m c))
          iexact HD
        · iexact HP
    · isplitl [HS]
      · iexact HS
      · iexact HW

/-- What the body is given at the one point, and what it gives back. -/
def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d)))
/-- What the launch wants back after the body. -/
def bodyPost (c : Dev nD) (t : Fin (cfg0 (F := F)).N) : sProp 𝕄 :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t))

/-- Each window's buffer is given to the body at its contents, -/
theorem stage_in0 (c : Dev nD) : iprop(∃ d, owns (c : Thread nD τ) (win0_0.stage ((cfg0 (F := F)).slots t0_0 0)) fullShare ((dats m 0 c).before 0 t0_0 d)) ⊢ ((c : Thread nD τ).loc cc0_stg0_0 ↦{fullShare} st0 m c : sProp 𝕄) := by
  iintro ⟨%d, H⟩
  iapply (ent_eq ((congrArg (owns (c : Thread nD τ) (win0_0.stage ((cfg0 (F := F)).slots t0_0 0)) fullShare) (before0 m c d)).trans (owns_whole (c : Thread nD τ) cc0_stg0_0 fullShare (st0 m c))))
  iexact H
/-- The second window's buffer, as the launch hands it over, holds the staged operand. -/
theorem stage_in1 (c : Dev nD) : iprop(∃ d, owns (c : Thread nD τ) (win0_1.stage ((cfg0 (F := F)).slots t0_0 1)) fullShare ((dats m 0 c).before 1 t0_0 d)) ⊢ ((c : Thread nD τ).loc cc0_stg1_0 ↦{fullShare} st1 m c : sProp 𝕄) := by
  iintro ⟨%d, H⟩
  iapply (ent_eq ((congrArg (owns (c : Thread nD τ) (win0_1.stage ((cfg0 (F := F)).slots t0_0 1)) fullShare) (before1 m c d)).trans (owns_whole (c : Thread nD τ) cc0_stg1_0 fullShare (st1 m c))))
  iexact H
/-- The third window's buffer, as the launch hands it over, holds the staged operand. -/
theorem stage_in2 (c : Dev nD) : iprop(∃ d, owns (c : Thread nD τ) (win0_2.stage ((cfg0 (F := F)).slots t0_0 2)) fullShare ((dats m 0 c).before 2 t0_0 d)) ⊢ ((c : Thread nD τ).loc cc0_stg2_0 ↦{fullShare} st2 m c : sProp 𝕄) := by
  iintro ⟨%d, H⟩
  iapply (ent_eq ((congrArg (owns (c : Thread nD τ) (win0_2.stage ((cfg0 (F := F)).slots t0_0 2)) fullShare) (before2 m c d)).trans (owns_whole (c : Thread nD τ) cc0_stg2_0 fullShare (st2 m c))))
  iexact H
/-- The fourth window's buffer, as the launch hands it over, holds the staged operand. -/
theorem stage_in3 (c : Dev nD) : iprop(∃ d, owns (c : Thread nD τ) (win0_3.stage ((cfg0 (F := F)).slots t0_0 3)) fullShare ((dats m 0 c).before 3 t0_0 d)) ⊢ ((c : Thread nD τ).loc cc0_stg3_0 ↦{fullShare} st3 m c : sProp 𝕄) := by
  iintro ⟨%d, H⟩
  iapply (ent_eq ((congrArg (owns (c : Thread nD τ) (win0_3.stage ((cfg0 (F := F)).slots t0_0 3)) fullShare) (before3 m c d)).trans (owns_whole (c : Thread nD τ) cc0_stg3_0 fullShare (st3 m c))))
  iexact H
/-- The fifth window's buffer, as the launch hands it over, holds the staged operand. -/
theorem stage_in4 (c : Dev nD) : iprop(∃ d, owns (c : Thread nD τ) (win0_4.stage ((cfg0 (F := F)).slots t0_0 4)) fullShare ((dats m 0 c).before 4 t0_0 d)) ⊢ ((c : Thread nD τ).loc cc0_stg4_0 ↦{fullShare} st4 m c : sProp 𝕄) := by
  iintro ⟨%d, H⟩
  iapply (ent_eq ((congrArg (owns (c : Thread nD τ) (win0_4.stage ((cfg0 (F := F)).slots t0_0 4)) fullShare) (before4 m c d)).trans (owns_whole (c : Thread nD τ) cc0_stg4_0 fullShare (st4 m c))))
  iexact H
/-- The sixth window's buffer, as the launch hands it over, holds the staged operand. -/
theorem stage_in5 (c : Dev nD) : iprop(∃ d, owns (c : Thread nD τ) (win0_5.stage ((cfg0 (F := F)).slots t0_0 5)) fullShare ((dats m 0 c).before 5 t0_0 d)) ⊢ ((c : Thread nD τ).loc cc0_stg5_0 ↦{fullShare} st5 m c : sProp 𝕄) := by
  iintro ⟨%d, H⟩
  iapply (ent_eq ((congrArg (owns (c : Thread nD τ) (win0_5.stage ((cfg0 (F := F)).slots t0_0 5)) fullShare) (before5 m c d)).trans (owns_whole (c : Thread nD τ) cc0_stg5_0 fullShare (st5 m c))))
  iexact H
/-- and given back at the same. -/
theorem stage_out0 (c : Dev nD) : ((c : Thread nD τ).loc cc0_stg0_0 ↦{fullShare} st0 m c : sProp 𝕄) ⊢ owns (c : Thread nD τ) (win0_0.stage ((cfg0 (F := F)).slots t0_0 0)) fullShare ((dats m 0 c).after 0 t0_0) :=
  ent_eq (owns_whole (c : Thread nD τ) cc0_stg0_0 fullShare (st0 m c)).symm
/-- The second window's buffer is handed back as it was. -/
theorem stage_out1 (c : Dev nD) : ((c : Thread nD τ).loc cc0_stg1_0 ↦{fullShare} st1 m c : sProp 𝕄) ⊢ owns (c : Thread nD τ) (win0_1.stage ((cfg0 (F := F)).slots t0_0 1)) fullShare ((dats m 0 c).after 1 t0_0) :=
  ent_eq (owns_whole (c : Thread nD τ) cc0_stg1_0 fullShare (st1 m c)).symm
/-- The third window's buffer is handed back as it was. -/
theorem stage_out2 (c : Dev nD) : ((c : Thread nD τ).loc cc0_stg2_0 ↦{fullShare} st2 m c : sProp 𝕄) ⊢ owns (c : Thread nD τ) (win0_2.stage ((cfg0 (F := F)).slots t0_0 2)) fullShare ((dats m 0 c).after 2 t0_0) :=
  ent_eq (owns_whole (c : Thread nD τ) cc0_stg2_0 fullShare (st2 m c)).symm
/-- The fourth window's buffer is handed back as it was. -/
theorem stage_out3 (c : Dev nD) : ((c : Thread nD τ).loc cc0_stg3_0 ↦{fullShare} st3 m c : sProp 𝕄) ⊢ owns (c : Thread nD τ) (win0_3.stage ((cfg0 (F := F)).slots t0_0 3)) fullShare ((dats m 0 c).after 3 t0_0) :=
  ent_eq (owns_whole (c : Thread nD τ) cc0_stg3_0 fullShare (st3 m c)).symm
/-- The fifth window's buffer is handed back as it was. -/
theorem stage_out4 (c : Dev nD) : ((c : Thread nD τ).loc cc0_stg4_0 ↦{fullShare} st4 m c : sProp 𝕄) ⊢ owns (c : Thread nD τ) (win0_4.stage ((cfg0 (F := F)).slots t0_0 4)) fullShare ((dats m 0 c).after 4 t0_0) :=
  ent_eq (owns_whole (c : Thread nD τ) cc0_stg4_0 fullShare (st4 m c)).symm
/-- The sixth window's buffer is handed back as it was. -/
theorem stage_out5 (c : Dev nD) : ((c : Thread nD τ).loc cc0_stg5_0 ↦{fullShare} st5 m c : sProp 𝕄) ⊢ owns (c : Thread nD τ) (win0_5.stage ((cfg0 (F := F)).slots t0_0 5)) fullShare ((dats m 0 c).after 5 t0_0) :=
  ent_eq (owns_whole (c : Thread nD τ) cc0_stg5_0 fullShare (st5 m c)).symm

/-- Before the body: the arrays as at the entry. -/
theorem Phi_first (c : Dev nD) : (dats m 0 c).Φ t0_0.castSucc = EndsW c (V m c) := rfl
/-- After the body: the arrays with the result in place. -/
theorem Phi_last (c : Dev nD) : (dats m 0 c).Φ t0_0.succ = EndsW c (Y m c) := rfl

/-- What the launch hands over is the arrays, the staged operands and the rest. -/
theorem pre_open (c : Dev nD) : bodyPre m c t0_0 ⊢ iprop(EndsW c (V m c) ∗ StM m c ∗ Ow c) := by
  unfold bodyPre StM St Ow Dat.owesAt Pipeline.owesWithin
  rw [Phi_first, show (dats m 0 c).owed t0_0.castSucc = 0 from rfl]
  iintro ⟨HE, ⟨%W, -, HW⟩, H0, H1, H2, H3, H4, H5⟩
  isplitl [HE]
  · iexact HE
  · isplitr [HW]
    · isplitl [H0]
      · iapply (stage_in0 m c) $$ H0
      · isplitl [H1]
        · iapply (stage_in1 m c) $$ H1
        · isplitl [H2]
          · iapply (stage_in2 m c) $$ H2
          · isplitl [H3]
            · iapply (stage_in3 m c) $$ H3
            · isplitl [H4]
              · iapply (stage_in4 m c) $$ H4
              · iapply (stage_in5 m c) $$ H5
    · iexists W
      iexact HW

/-- The arrays with the result in place, the staged operands and the rest are what the launch wants back. -/
theorem post_close (c : Dev nD) : iprop(EndsW c (Y m c) ∗ StM m c ∗ Ow c) ⊢ bodyPost m c t0_0 := by
  unfold bodyPost StM St Ow Dat.owesAt Pipeline.owesWithin
  rw [Phi_last, show (dats m 0 c).owed t0_0.succ = 0 from rfl]
  iintro ⟨HE, ⟨H0, H1, H2, H3, H4, H5⟩, %W, HW⟩
  isplitl [HE]
  · iexact HE
  · isplitl [HW]
    · iexists W
      isplitr
      · ipureintro; exact fun _ _ => Or.inl trivial
      · iexact HW
    · isplitl [H0]
      · iapply (stage_out0 m c) $$ H0
      · isplitl [H1]
        · iapply (stage_out1 m c) $$ H1
        · isplitl [H2]
          · iapply (stage_out2 m c) $$ H2
          · isplitl [H3]
            · iapply (stage_out3 m c) $$ H3
            · isplitl [H4]
              · iapply (stage_out4 m c) $$ H4
              · iapply (stage_out5 m c) $$ H5

/-- The body, from what the launch hands over, ends in what it wants back. -/
theorem sound_body (c : Dev nD) (t : Fin (cfg0 (F := F)).N) :
    bodyPre m c t ⊢ wp frame (wpE (defs₀ (F := F)) 𝒱₀ c none) Set.univ (bodyAt0 t) (fun _ => bodyPost m c t) := by
  obtain rfl := fin_N0 t
  iintro H
  iapply (body_run m c)
  isplitl [H]
  · iapply (pre_open m c)
    iexact H
  · iintro H
    iapply (post_close m c)
    iexact H

/-- The body that the launch names is the kernel's. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The launch's obligation on the body is met. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

/-- What every final state satisfies: the result is the glued blocks, the arguments are as they began, every counter is
    zero. -/
def Post (r : PUnit × MemSt nD τ sig (Elt F)) : Prop :=
  (∀ c : Dev nD, r.2.mem ((c.tc : Thread nD τ).loc main_v2) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0

/-- The third argument is in no window and not moved by the body. -/
theorem rest2 : main_arg2 ∈ Pipeline.restRefs sig spec0 \ Rt := by decide
/-- The last argument is in no window and not moved by the body. -/
theorem rest7 : main_arg7 ∈ Pipeline.restRefs sig spec0 \ Rt := by decide

/-- An argument that a window only reads ends as it began. -/
theorem arr_in (c : Dev nD) (w : Fin 6) (hw : ((cfg0 (F := F)).win w).isOut = false) (h0 : Pipeline.arrRef spec0 w ≠ main_v0) (h1 : Pipeline.arrRef spec0 w ≠ main_v1) :
    (dats m 0 c).arrAt w (cfg0 (F := F)).N = m ((c.tc : Thread nD τ).loc (Pipeline.arrRef spec0 w)) :=
  ((dats m 0 c).arrAt_in w hw _).trans (V_of m c _ h0 h1)

/-- What the launch's theorem concludes gives the run's post-condition. -/
theorem post_of (r : PUnit × MemSt nD τ sig (Elt F)) (h : Pipeline.RoutedPost cfgs (dats m) 0 Rt (V m) (Y m) r ∧ r.2.sem = fun _ => 0) : Post m r := by
  refine ⟨fun c => ?_, h.2⟩
  obtain ⟨ha, hr, hv⟩ := h.1 c
  refine ⟨(hr main_v2 (by decide)).trans (Y_out m c), ?_, ?_, ?_, ?_, ?_, ?_, ?_, ?_⟩
  · exact (hr main_arg0 (by decide)).trans ((Y_of m c _ (by decide)).trans (V_of m c _ (by decide) (by decide)))
  · exact (hr main_arg1 (by decide)).trans ((Y_of m c _ (by decide)).trans (V_of m c _ (by decide) (by decide)))
  · exact (hv main_arg2 rest2).trans (V_of m c _ (by decide) (by decide))
  · exact (ha 1).trans (arr_in m c 1 rfl (by decide) (by decide))
  · exact (ha 2).trans (arr_in m c 2 rfl (by decide) (by decide))
  · exact (ha 3).trans (arr_in m c 3 rfl (by decide) (by decide))
  · exact (ha 4).trans (arr_in m c 4 rfl (by decide) (by decide))
  · exact (hv main_arg7 rest7).trans (V_of m c _ (by decide) (by decide))

set_option backward.isDefEq.respectTransparency.types false in
/-- The run: every execution ends, with the result glued of the blocks' payloads, the arguments as they began and every
    counter at zero, whatever the floats are. -/
theorem run_main : θ_run defs (onTc (τ := τ) (main (F := F))) ⟨m, fun _ => 0, ρ⟩ (Post m) :=
  Pipeline.θ_run_frame_routed (Q' := Post m) cfgs (dats m) (0 : Fin 1) launch0 ownSemFacts0 defs₀ 𝒱₀ m ρ main
    (hbody := fun c => (body_obligation m c).loose) (hshare := fun c => (dats m 0 c).share_full fun _ => rfl)
    (howed := fun _ _ => rfl) (V := V m)
    (hmain := Pipeline.hmain_prefix cfgs 0 defs₀ 𝒱₀ m main hostOps0 hostOps0_sub ⟨rfl, rfl⟩ main_chain)
    (hA := A_eq m) (R := Rt) (hR := Rt_sub) (Y := Y m)
    (hin := fun _ => .rfl) (hout := fun _ => .rfl) (hQ' := post_of m)

/-- The frame: every execution ends, with the arguments as they began and every counter at zero, whatever the floats are. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3)
       ∧ r.2.mem ((c.tc : Thread nD τ).loc main_arg4) = m ((c.tc : Thread nD τ).loc main_arg4)
       ∧ r.2.mem ((c.tc : Thread nD τ).loc main_arg5) = m ((c.tc : Thread nD τ).loc main_arg5)
       ∧ r.2.mem ((c.tc : Thread nD τ).loc main_arg6) = m ((c.tc : Thread nD τ).loc main_arg6)
       ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_main m ρ)

end Cert.Proof.K

end
-- ==== Proof.Cell.lean ====
/-
  The arithmetic of one entry of the result, over the extended reals.
-/
module

public import Idealize.ShloMosaic.Lib.Pointwise
public import Idealize.ShloMosaic.Lib.ValueIdx

@[expose] public section

set_option maxRecDepth 16384

noncomputable section

namespace Cert.Proof.K

open Idealize.ShloMosaic
open Idealize.ShloMosaic.ValueIdx (ix0 ix1 ix2 ix3)
open scoped BigOperators

/-! ## The arithmetic of one output entry, over the extended reals -/

/-- One component of the graph convolution of a node: its adjacency row times that column of the annotations, plus the bias. -/
def gc (A : Fin 4096 → EReal) (N : Fin 4096 → Fin 32 → EReal) (b : Fin 32 → EReal) (k : Fin 32) : EReal :=
  (∑ j : Fin 4096, A j * N j k) + b k

/-- One component of a vector of length 32 times a matrix, plus a bias. -/
def lin {n : ℕ} (v : Fin 32 → EReal) (W : Fin 32 → Fin n → EReal) (b : Fin n → EReal) (k : Fin n) : EReal :=
  (∑ j : Fin 32, v j * W j k) + b k

/-- Column `o + k` of the 96, the `o`-th block of 32 starting at `o ≤ 64`. -/
def at96 (o : ℕ) (h : o ≤ 64) (k : Fin 32) : Fin 96 := ⟨o + k.val, by have := k.isLt; omega⟩

/-- One component of the new state: from the two affine images `x` (of the convolution) and `s` (of the state) and the state. -/
def gru (x s : Fin 96 → EReal) (h : Fin 32 → EReal) (k : Fin 32) : EReal :=
  Ideal.logistic (x (at96 0 (by decide) k) + s (at96 0 (by decide) k)) * h k
    + (1 - Ideal.logistic (x (at96 0 (by decide) k) + s (at96 0 (by decide) k)))
      * Ideal.tanh (x (at96 64 (by decide) k)
          + Ideal.logistic (x (at96 32 (by decide) k) + s (at96 32 (by decide) k)) * s (at96 64 (by decide) k))

/-- One component of the result at a node: convolution, gated step, dense layer. -/
def cell (A : Fin 4096 → EReal) (N : Fin 4096 → Fin 32 → EReal) (b h : Fin 32 → EReal)
    (W1 W2 : Fin 32 → Fin 96 → EReal) (r0 r1 : Fin 96 → EReal) (Wo : Fin 32 → Fin 32 → EReal) (bo : Fin 32 → EReal)
    (k : Fin 32) : EReal :=
  lin (gru (lin (gc A N b) W1 r0) (lin h W2 r1) h) Wo bo k

end Cert.Proof.K

end
-- ==== Proof.KVal.lean ====
/-
  The kernel's arithmetic on one tile, entry by entry.
-/
module

public import proofs.«01_k».proof.Proof.Cell
public import proofs.«01_k».proof.Proof.Launch
public import Idealize.ShloMosaic.Lib.Pointwise
public import Idealize.ShloMosaic.Lib.ValueIdx

@[expose] public section

set_option maxRecDepth 16384

noncomputable section

namespace Cert.Proof.K

open Idealize.ShloMosaic
open scoped BigOperators

open Cert.KernelIdeal Cert.KernelIdeal.Gen

/-- The kernel's image of a tile's convolution, entry by entry. -/
theorem pay3_apply (a : FVec Ideal S512x4096 .f32) (n : Vec Ideal S1x4096x32 .f32) (b : Vec Ideal S1x32 .f32)
    (w1 : Vec Ideal S32x96 .f32) (r0 : Vec Ideal S1x96 .f32) (i : Fin 512) (k : Fin 96) :
    k0_pay3 a n b w1 r0 (ix2 i k)
      = lin (gc (fun j => a (ix2 i j)) (fun j l => n (ix3 0 j l)) (fun l => b (ix2 0 l))) (fun l q => w1 (ix2 l q))
          (fun q => r0 (ix2 0 q)) k := by
  pointwise [k0_pay3, lin, gc]

/-- The kernel's image of a tile's state, entry by entry. -/
theorem pay4_apply (h : Vec Ideal S1x512x32 .f32) (w2 : Vec Ideal S32x96 .f32) (r1 : Vec Ideal S1x96 .f32)
    (i : Fin 512) (k : Fin 96) :
    k0_pay4 h w2 r1 (ix2 i k)
      = lin (fun l => h (ix3 0 i l)) (fun l q => w2 (ix2 l q)) (fun q => r1 (ix2 0 q)) k := by
  pointwise [k0_pay4, k0_pay2, lin]

/-- The two images and the state of a tile give the new state and then the dense layer: what a trip stores, entry by entry. -/
theorem pay8_apply (a : FVec Ideal S512x4096 .f32) (n : Vec Ideal S1x4096x32 .f32) (h : Vec Ideal S1x512x32 .f32)
    (b : Vec Ideal S1x32 .f32) (w1 w2 : Vec Ideal S32x96 .f32) (r0 r1 : Vec Ideal S1x96 .f32)
    (wo : Vec Ideal S32x32 .f32) (bo : Vec Ideal S1x32 .f32) (i : Fin 512) (k : Fin 32) :
    k0_pay8 (k0_pay2 h) (k0_pay4 h w2 r1) (k0_pay5 a n b h w1 r0 w2 r1) (k0_pay6 a n b h w1 r0 w2 r1)
        (k0_pay7 a n b w1 r0) wo bo (ix3 0 i k)
      = lin (gru (fun q => k0_pay3 a n b w1 r0 (ix2 i q)) (fun q => k0_pay4 h w2 r1 (ix2 i q)) (fun l => h (ix3 0 i l)))
          (fun l q => wo (ix2 l q)) (fun q => bo (ix2 0 q)) k := by
  pointwise [k0_pay8, k0_pay7, k0_pay6, k0_pay5, k0_pay2, lin, gru, at96]

/-- What a trip stores, entry by entry, from the blocks it reads. -/
theorem payOf_apply (a : Vec Ideal S1x512x4096 .f32) (n : Vec Ideal S1x4096x32 .f32) (h : Vec Ideal S1x512x32 .f32)
    (b : Vec Ideal S1x32 .f32) (w1 w2 : Vec Ideal S32x96 .f32) (r0 r1 : Vec Ideal S1x96 .f32)
    (wo : Vec Ideal S32x32 .f32) (bo : Vec Ideal S1x32 .f32) (i : Fin 512) (k : Fin 32) :
    payOf (F := Ideal) a n h b w1 w2 r0 r1 wo bo (ix3 0 i k)
      = cell (fun j => a (ix3 0 i j)) (fun j l => n (ix3 0 j l)) (fun l => b (ix2 0 l)) (fun l => h (ix3 0 i l))
          (fun l q => w1 (ix2 l q)) (fun l q => w2 (ix2 l q)) (fun q => r0 (ix2 0 q)) (fun q => r1 (ix2 0 q))
          (fun l q => wo (ix2 l q)) (fun q => bo (ix2 0 q)) k := by
  unfold payOf
  rw [pay8_apply]
  simp only [pay3_apply, pay4_apply]
  pointwise [k0_pay1, cell]

end Cert.Proof.K

end
-- ==== Proof.RVal.lean ====
/-
  The reference's arithmetic, entry by entry.
-/
module

public import proofs.«01_k».proof.Proof.Cell
public import proofs.«01_k».proof.Proof.Gen.ReferenceIdeal.Run
public import Idealize.ShloMosaic.Lib.Pointwise
public import Idealize.ShloMosaic.Lib.ValueIdx

@[expose] public section

set_option maxRecDepth 16384

noncomputable section

namespace Cert.Proof.K

open Idealize.ShloMosaic
open scoped BigOperators

open Cert.ReferenceIdeal Cert.ReferenceIdeal.Gen

section
variable {F : FTy → Type} [FloatOps F]

/-- The reference's graph convolution. -/
def rGc (A : FVec F S4x4096x4096 .f32) (N : FVec F S4x4096x32 .f32) (b : FVec F S1x1x32 .f32) : FVec F S4x4096x32 .f32 :=
  addf (Host.dotGeneral dot_S4x4096x4096_S4x4096x32_S4x4096x32_2_1_1_2_0_0 none A N)
    (broadcastInDim S4x4096x32 ![0, 1, 2] bcast_S1x1x32_S4x4096x32_0_1_2 b)

/-- A row of 96 laid under every one of the reference's 16384 rows. -/
def rRow (r : FVec F S1x96 .f32) : FVec F S16384x96 .f32 :=
  broadcastInDim S16384x96 ![0, 1] bcast_S1x96_S16384x96_0_1
    (broadcastInDim S1x96 ![1] bcast_S96_S1x96_1 (shapeCast _ r shapeCasts_S1x96_S96))

/-- The reference's affine image of a flattened array. -/
def rLin (X : FVec F S4x4096x32 .f32) (W : FVec F S32x96 .f32) (r : FVec F S1x96 .f32) : FVec F S16384x96 .f32 :=
  addf (Host.dotGeneral dot_S16384x32_S32x96_S16384x96_1_0_0_1_n_n none (shapeCast _ X shapeCasts_S4x4096x32_S16384x32) W) (rRow r)

/-- The reference's array of ones. -/
def rOne : FVec F S16384x32 .f32 := broadcastInDim S16384x32 ![] bcast_S_S16384x32 (constant S_ .f32 0x3F800000#32)

/-- The reference's gate of two slices. -/
def rGate (x s : FVec F S16384x32 .f32) : FVec F S16384x32 .f32 :=
  Host.divf rOne (addf rOne (Host.exp (Host.negf (addf x s))))

/-- The reference's new state. -/
def rGru (x s : FVec F S16384x96 .f32) (N : FVec F S4x4096x32 .f32) : FVec F S16384x32 .f32 :=
  addf
    (mulf (rGate (extractStridedSlice S16384x32 ![0, 0] x slices_S16384x96_S16384x32_0_0)
        (extractStridedSlice S16384x32 ![0, 0] s slices_S16384x96_S16384x32_0_0))
      (shapeCast _ N shapeCasts_S4x4096x32_S16384x32))
    (mulf (subf rOne (rGate (extractStridedSlice S16384x32 ![0, 0] x slices_S16384x96_S16384x32_0_0)
        (extractStridedSlice S16384x32 ![0, 0] s slices_S16384x96_S16384x32_0_0)))
      (Host.tanh (addf (extractStridedSlice S16384x32 ![0, 64] x slices_S16384x96_S16384x32_0_64)
        (mulf (rGate (extractStridedSlice S16384x32 ![0, 32] x slices_S16384x96_S16384x32_0_32)
            (extractStridedSlice S16384x32 ![0, 32] s slices_S16384x96_S16384x32_0_32))
          (extractStridedSlice S16384x32 ![0, 64] s slices_S16384x96_S16384x32_0_64)))))

/-- The reference's dense layer. -/
def rOut (Y : FVec F S16384x32 .f32) (W : FVec F S32x32 .f32) (b : FVec F S32 .f32) : FVec F S4x4096x32 .f32 :=
  addf (Host.dotGeneral dot_S4x4096x32_S32x32_S4x4096x32_2_0_01_1_n_n none (shapeCast _ Y shapeCasts_S16384x32_S4x4096x32) W)
    (broadcastInDim S4x4096x32 ![0, 1, 2] bcast_S1x1x32_S4x4096x32_0_1_2 (broadcastInDim S1x1x32 ![2] bcast_S32_S1x1x32_2 b))

/-- The reference's result of its arguments, stage by stage. -/
def rRes (A : FVec F S4x4096x4096 .f32) (N : FVec F S4x4096x32 .f32) (b : FVec F S1x1x32 .f32) (W1 W2 : FVec F S32x96 .f32)
    (r : FVec F S2x96 .f32) (Wo : FVec F S32x32 .f32) (bo : FVec F S32 .f32) : FVec F S4x4096x32 .f32 :=
  rOut (rGru (rLin (rGc A N b) W1 (extractStridedSlice S1x96 ![0, 0] r slices_S2x96_S1x96_0_0))
    (rLin N W2 (extractStridedSlice S1x96 ![1, 0] r slices_S2x96_S1x96_1_0)) N) Wo bo

/-- The value the reference's run names is that. -/
theorem res_eq (m : (ℓ : Loc nD τ sig) → Buf (Elt F) ℓ) (c : Dev nD) :
    Value.res_main_v49 m c = rRes (F := F) (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) := rfl
end

/-- Row `g * 4096 + i` of the flattened arrays: node `i` of graph `g`. -/
def row (g : Fin 4) (i : Fin 4096) : Fin 16384 := ⟨g.val * 4096 + i.val, by have := g.isLt; have := i.isLt; omega⟩

/-- A flattened row's graph. -/
theorem row_div (g : Fin 4) (i : Fin 4096) (h : (row g i).val / 4096 < 4) : (⟨(row g i).val / 4096, h⟩ : Fin 4) = g := by
  apply Fin.ext; have := i.isLt; simp only [row]; omega

/-- A flattened row's node. -/
theorem row_mod (g : Fin 4) (i : Fin 4096) (h : (row g i).val % 4096 < 4096) : (⟨(row g i).val % 4096, h⟩ : Fin 4096) = i := by
  apply Fin.ext; have := i.isLt; simp only [row]; omega

/-- The reference's convolution, entry by entry. -/
theorem rGc_apply (A : FVec Ideal S4x4096x4096 .f32) (N : FVec Ideal S4x4096x32 .f32) (b : FVec Ideal S1x1x32 .f32)
    (g : Fin 4) (i : Fin 4096) (l : Fin 32) :
    rGc A N b (ix3 g i l) = gc (fun j => A (ix3 g i j)) (fun j l => N (ix3 g j l)) (fun l => b (ix3 0 0 l)) l := by
  pointwise [rGc, gc]

/-- The reference's affine image of a node's row, entry by entry. -/
theorem rLin_apply (X : FVec Ideal S4x4096x32 .f32) (W : FVec Ideal S32x96 .f32) (r : FVec Ideal S1x96 .f32)
    (g : Fin 4) (i : Fin 4096) (q : Fin 96) :
    rLin X W r (ix2 (row g i) q) = lin (fun l => X (ix3 g i l)) (fun l q => W (ix2 l q)) (fun q => r (ix2 0 q)) q := by
  pointwise [rLin, rRow, lin]
  simp only [row_div, row_mod]

/-- The reference's gate is the logistic function of the sum, entry by entry. -/
theorem rGate_apply (x s : FVec Ideal S16384x32 .f32) (p : Fin 16384) (l : Fin 32) :
    rGate x s (ix2 p l) = Ideal.logistic (x (ix2 p l) + s (ix2 p l)) := by
  pointwise [rGate, rOne, Ideal.logistic]

/-- The reference's new state at a node, entry by entry. -/
theorem rGru_apply (x s : FVec Ideal S16384x96 .f32) (N : FVec Ideal S4x4096x32 .f32) (g : Fin 4) (i : Fin 4096) (l : Fin 32) :
    rGru x s N (ix2 (row g i) l)
      = gru (fun q => x (ix2 (row g i) q)) (fun q => s (ix2 (row g i) q)) (fun l => N (ix3 g i l)) l := by
  pointwise [rGru, rGate_apply, rOne, gru, at96]
  simp only [row_div, row_mod]

/-- The reference's dense layer at a node, entry by entry. -/
theorem rOut_apply (Y : FVec Ideal S16384x32 .f32) (W : FVec Ideal S32x32 .f32) (b : FVec Ideal S32 .f32)
    (g : Fin 4) (i : Fin 4096) (k : Fin 32) :
    rOut Y W b (ix3 g i k) = lin (fun l => Y (ix2 (row g i) l)) (fun l q => W (ix2 l q)) (fun q => b (ix1 q)) k := by
  pointwise [rOut, lin, row]

/-- The reference's result, entry by entry. -/
theorem rRes_apply (A : FVec Ideal S4x4096x4096 .f32) (N : FVec Ideal S4x4096x32 .f32) (b : FVec Ideal S1x1x32 .f32)
    (W1 W2 : FVec Ideal S32x96 .f32) (r : FVec Ideal S2x96 .f32) (Wo : FVec Ideal S32x32 .f32) (bo : FVec Ideal S32 .f32)
    (g : Fin 4) (i : Fin 4096) (k : Fin 32) :
    rRes A N b W1 W2 r Wo bo (ix3 g i k)
      = cell (fun j => A (ix3 g i j)) (fun j l => N (ix3 g j l)) (fun l => b (ix3 0 0 l)) (fun l => N (ix3 g i l))
          (fun l q => W1 (ix2 l q)) (fun l q => W2 (ix2 l q)) (fun q => r (ix2 0 q)) (fun q => r (ix2 1 q))
          (fun l q => Wo (ix2 l q)) (fun q => bo (ix1 q)) k := by
  unfold rRes
  simp only [rOut_apply, rGru_apply, rLin_apply, rGc_apply]
  pointwise [cell]

end Cert.Proof.K

end
-- ==== Proof.Value.lean ====
/-
  The kernel's result, entry by entry, and the reference's: one function of the arguments.
-/
module

public import proofs.«01_k».proof.Proof.KVal
public import proofs.«01_k».proof.Proof.RVal

@[expose] public section

set_option maxRecDepth 16384

noncomputable section

namespace Cert.Proof.K

open Idealize.ShloMosaic
open scoped BigOperators

open Cert.KernelIdeal Cert.KernelIdeal.Gen
open Idealize.ShloMosaic.TcCoe

section
variable {F : FTy → Type} [FloatOps F]
variable (m : (ℓ : Loc nD τ sig) → Buf (Elt F) ℓ) (c : Dev nD)

/-! ## The staged operands are the arguments -/

/-- The convolution's bias at the kernel's entry: the third argument, its first unit axis dropped. -/
theorem V_bias : (V m c main_v0 : Vec F S1x32 .f32) = shapeCast S1x32 (m (c.tc.loc main_arg2) : Vec F S1x1x32 .f32) shapeCasts_S1x1x32_S1x32 := by
  unfold V
  after_results_simp <;> rfl

/-- The dense layer's bias at the kernel's entry: the last argument as one row. -/
theorem V_bias_out : (V m c main_v1 : Vec F S1x32 .f32) = shapeCast S1x32 (m (c.tc.loc main_arg7) : Vec F S32 .f32) shapeCasts_S32_S1x32 := by
  unfold V
  after_results_simp <;> rfl

/-- A block at index zero of a whole operand puts each coordinate where it is. -/
theorem zero_coord (n k : ℕ) : 0 * n + 1 * k = k := by omega

/-- What the first window stages: all of its operand. -/
theorem st0_eq : (st0 m c : Vec F S1x32 .f32) = V m c main_v0 :=
  funext fun _ => congrArg (V m c main_v0) (funext fun _ => Fin.ext (zero_coord _ _))
/-- What the second window stages: all of its operand. -/
theorem st1_eq : (st1 m c : Vec F S32x96 .f32) = V m c main_arg3 :=
  funext fun _ => congrArg (V m c main_arg3) (funext fun _ => Fin.ext (zero_coord _ _))
/-- What the third window stages: all of its operand. -/
theorem st2_eq : (st2 m c : Vec F S32x96 .f32) = V m c main_arg4 :=
  funext fun _ => congrArg (V m c main_arg4) (funext fun _ => Fin.ext (zero_coord _ _))
/-- What the fourth window stages: all of its operand. -/
theorem st3_eq : (st3 m c : Vec F S2x96 .f32) = V m c main_arg5 :=
  funext fun _ => congrArg (V m c main_arg5) (funext fun _ => Fin.ext (zero_coord _ _))
/-- What the fifth window stages: all of its operand. -/
theorem st4_eq : (st4 m c : Vec F S32x32 .f32) = V m c main_arg6 :=
  funext fun _ => congrArg (V m c main_arg6) (funext fun _ => Fin.ext (zero_coord _ _))
/-- What the sixth window stages: all of its operand. -/
theorem st5_eq : (st5 m c : Vec F S1x32 .f32) = V m c main_v1 :=
  funext fun _ => congrArg (V m c main_v1) (funext fun _ => Fin.ext (zero_coord _ _))

/-- The first of the staged biases' rows. -/
theorem row0_apply (f3 : Buf (Elt F) ((c : Thread nD τ).loc cc0_stg3_0)) (q : Fin 96) : row0 c f3 (ix2 0 q) = (f3 : Vec F S2x96 .f32) (ix2 0 q) := by
  show (f3 : Vec F S2x96 .f32) _ = _
  congr 1; funext a; apply Fin.ext
  match a with
  | ⟨0, _⟩ => rfl
  | ⟨1, _⟩ => show 0 + 1 * q.val = q.val; omega
/-- The second of the staged biases' rows. -/
theorem row1_apply (f3 : Buf (Elt F) ((c : Thread nD τ).loc cc0_stg3_0)) (q : Fin 96) : row1 c f3 (ix2 0 q) = (f3 : Vec F S2x96 .f32) (ix2 1 q) := by
  show (f3 : Vec F S2x96 .f32) _ = _
  congr 1; funext a; apply Fin.ext
  match a with
  | ⟨0, _⟩ => rfl
  | ⟨1, _⟩ => show 0 + 1 * q.val = q.val; omega

/-! ## The transferred blocks are blocks of the arguments -/

variable (A : Buf (Elt F) ((c : Thread nD τ).loc main_arg0)) (N : Buf (Elt F) ((c : Thread nD τ).loc main_arg1))

/-- A block's adjacency rows. -/
theorem aBlk_apply (j : ℕ) (g : Fin 4) (i : Fin 4096) (p : Fin 512) (q : Fin 4096) (hg : j / 8 % 4 = g.val) (hi : 512 * (j % 8) + p.val = i.val) :
    (aBlk j).view.read (Elt F) A (ix3 0 p q) = (A : Vec F S4x4096x4096 .f32) (ix3 g i q) := by
  show (A : Vec F S4x4096x4096 .f32) _ = _
  congr 1; funext a; apply Fin.ext
  match a with
  | ⟨0, _⟩ => show j / 8 % 4 + 1 * 0 = g.val; omega
  | ⟨1, _⟩ => show 512 * (j % 8) + 1 * p.val = i.val; omega
  | ⟨2, _⟩ => show 0 + 1 * q.val = q.val; omega

/-- A block's own annotations. -/
theorem hBlk_apply (j : ℕ) (g : Fin 4) (i : Fin 4096) (p : Fin 512) (q : Fin 32) (hg : j / 8 % 4 = g.val) (hi : 512 * (j % 8) + p.val = i.val) :
    (hBlk j).view.read (Elt F) N (ix3 0 p q) = (N : Vec F S4x4096x32 .f32) (ix3 g i q) := by
  show (N : Vec F S4x4096x32 .f32) _ = _
  congr 1; funext a; apply Fin.ext
  match a with
  | ⟨0, _⟩ => show j / 8 % 4 + 1 * 0 = g.val; omega
  | ⟨1, _⟩ => show 512 * (j % 8) + 1 * p.val = i.val; omega
  | ⟨2, _⟩ => show 0 + 1 * q.val = q.val; omega

/-- A graph's annotations. -/
theorem nBlk_apply (j : ℕ) (g : Fin 4) (p : Fin 4096) (q : Fin 32) (hg : j % 4 = g.val) :
    (nBlk j).view.read (Elt F) N (ix3 0 p q) = (N : Vec F S4x4096x32 .f32) (ix3 g p q) := by
  show (N : Vec F S4x4096x32 .f32) _ = _
  congr 1; funext a; apply Fin.ext
  match a with
  | ⟨0, _⟩ => show j % 4 + 1 * 0 = g.val; omega
  | ⟨1, _⟩ => show 0 + 1 * p.val = p.val; omega
  | ⟨2, _⟩ => show 0 + 1 * q.val = q.val; omega
end

/-! ## The kernel's result, entry by entry -/

variable (m : (ℓ : Loc nD τ sig) → Buf (Elt Ideal) ℓ) (c : Dev nD)

/-- Each entry of the kernel's result, from the arguments. -/
theorem outM_apply (g : Fin 4) (i : Fin 4096) (k : Fin 32) :
    (outM m c : Vec Ideal S4x4096x32 .f32) (ix3 g i k)
      = cell (fun j => (m (c.tc.loc main_arg0) : Vec Ideal S4x4096x4096 .f32) (ix3 g i j))
          (fun j l => (m (c.tc.loc main_arg1) : Vec Ideal S4x4096x32 .f32) (ix3 g j l))
          (fun l => (m (c.tc.loc main_arg2) : Vec Ideal S1x1x32 .f32) (ix3 0 0 l))
          (fun l => (m (c.tc.loc main_arg1) : Vec Ideal S4x4096x32 .f32) (ix3 g i l))
          (fun l q => (m (c.tc.loc main_arg3) : Vec Ideal S32x96 .f32) (ix2 l q))
          (fun l q => (m (c.tc.loc main_arg4) : Vec Ideal S32x96 .f32) (ix2 l q))
          (fun q => (m (c.tc.loc main_arg5) : Vec Ideal S2x96 .f32) (ix2 0 q))
          (fun q => (m (c.tc.loc main_arg5) : Vec Ideal S2x96 .f32) (ix2 1 q))
          (fun l q => (m (c.tc.loc main_arg6) : Vec Ideal S32x32 .f32) (ix2 l q))
          (fun q => (m (c.tc.loc main_arg7) : Vec Ideal S32 .f32) (ix1 q)) k := by
  have hg := g.isLt
  have hi := i.isLt
  have hb : blkOf (ix3 g i k) = g.val * 8 + i.val / 512 := rfl
  have hl : locOf (ix3 g i k) = ix3 0 (⟨i.val % 512, Nat.mod_lt _ (by decide)⟩ : Fin 512) k := by
    funext a; match a with | ⟨0, _⟩ => rfl | ⟨1, _⟩ => rfl | ⟨2, _⟩ => rfl
  have h1 : blkOf (ix3 g i k) / 8 % 4 = g.val := by rw [hb]; omega
  have h2 : 512 * (blkOf (ix3 g i k) % 8) + (⟨i.val % 512, Nat.mod_lt _ (by decide)⟩ : Fin 512).val = i.val := by rw [hb]; dsimp only; omega
  show payM m c (blkOf (ix3 g i k)) (locOf (ix3 g i k)) = _
  rw [hl]
  unfold payM pay
  rw [payOf_apply]
  simp only [aBlk_apply c _ _ g i _ _ h1 h2, hBlk_apply c _ _ g i _ _ h1 h2, nBlk_apply c _ _ g _ _ h1, row0_apply, row1_apply]
  have e0 : (V m c main_v0 : Vec Ideal S1x32 .f32) = _ := V_bias m c
  have e5 : (V m c main_v1 : Vec Ideal S1x32 .f32) = _ := V_bias_out m c
  have v0 : ∀ l : Fin 32, (Memref.whole cc0_stg0_0).view.read (Elt Ideal) (st0 m c) (ix2 0 l) = (m (c.tc.loc main_arg2) : Vec Ideal S1x1x32 .f32) (ix3 0 0 l) := by
    intro l
    refine (congrFun ((st0_eq m c).trans e0) (ix2 0 l)).trans ?_
    generalize (m (c.tc.loc main_arg2) : Vec Ideal S1x1x32 .f32) = x
    pointwise
  have v5 : ∀ l : Fin 32, (Memref.whole cc0_stg5_0).view.read (Elt Ideal) (st5 m c) (ix2 0 l) = (m (c.tc.loc main_arg7) : Vec Ideal S32 .f32) (ix1 l) := by
    intro l
    refine (congrFun ((st5_eq m c).trans e5) (ix2 0 l)).trans ?_
    generalize (m (c.tc.loc main_arg7) : Vec Ideal S32 .f32) = x
    pointwise
  have v1 : (Memref.whole cc0_stg1_0).view.read (Elt Ideal) (st1 m c) = (m (c.tc.loc main_arg3) : Vec Ideal S32x96 .f32) :=
    (st1_eq m c).trans (V_of m c main_arg3 (by decide) (by decide))
  have v2 : (Memref.whole cc0_stg2_0).view.read (Elt Ideal) (st2 m c) = (m (c.tc.loc main_arg4) : Vec Ideal S32x96 .f32) :=
    (st2_eq m c).trans (V_of m c main_arg4 (by decide) (by decide))
  have v3 : st3 m c = (m (c.tc.loc main_arg5) : Vec Ideal S2x96 .f32) :=
    (st3_eq m c).trans (V_of m c main_arg5 (by decide) (by decide))
  have v4 : (Memref.whole cc0_stg4_0).view.read (Elt Ideal) (st4 m c) = (m (c.tc.loc main_arg6) : Vec Ideal S32x32 .f32) :=
    (st4_eq m c).trans (V_of m c main_arg6 (by decide) (by decide))
  simp only [v0, v5, v1, v2, v3, v4, V_of m c main_arg0 (by decide) (by decide), V_of m c main_arg1 (by decide) (by decide)]

/-- The kernel's result is the reference's composed term of the same arguments. -/
theorem outM_eq : (outM m c : Vec Ideal S4x4096x32 .f32)
    = rRes (F := Ideal) (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) := by
  funext y
  have hy : y = ix3 (y 0 : Fin 4) (y 1 : Fin 4096) (y 2 : Fin 32) := ValueIdx.eq_ix3 y
  rw [hy]
  exact (outM_apply m c (y 0) (y 1) (y 2)).trans (rRes_apply _ _ _ _ _ _ _ _ _ _ _).symm

end Cert.Proof.K

end
-- ==== Proof.lean ====
/-
  The certificate's five claims: the kernel as printed and as idealized, and the reference, run without fault, leave their
  arguments and every semaphore counter as they were; the ideal kernel is the kernel over the extended reals; and kernel and
  reference compute the same function of their arguments over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Printed.Launch
public import proofs.«01_k».proof.Proof.Launch
public import proofs.«01_k».proof.Proof.Value

@[expose] public section

noncomputable section

namespace Cert.Proof

open Idealize.ShloMosaic Idealize.SL.Sem

/-- The ideal kernel runs, leaves its arguments as they were and every counter at zero. -/
theorem frame_kernelIdeal : Cert.quiescent_KernelIdeal := fun m ρ _ =>
  K.run_frame (F := Ideal) m ρ

/-- The kernel as printed runs, leaves its arguments as they were and every counter at zero. -/
theorem frame_kernel : Cert.quiescent_Kernel := fun m ρ _ =>
  Printed.run_frame (F := Bits) m ρ

/-- The reference runs, leaves its arguments as they were and every counter at zero: it has none. -/
theorem frame_reference : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From equal arguments the reference's result is the kernel's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7)) :
    Cert.ReferenceIdeal.Value.res_main_v49 m' c = K.outM m c := by
  rw [K.res_eq, h0, h1, h2, h3, h4, h5, h6, h7]
  exact (K.outM_eq m c).symm

/-- Kernel and reference, from equal arguments, end with equal results over the extended reals. -/
theorem value : Cert.algebraic_KernelIdeal_ReferenceIdeal := by
  intro m g m' g' _ h
  refine ⟨fun c => K.outM m c, (θ_run Cert.KernelIdeal.defs _ _).mono (fun r hr => hr.1) (K.run_main (F := Ideal) m g),
    (θ_run Cert.ReferenceIdeal.defs _ _).mono (fun r hr c => ⟨(hr c).1.trans ?_, (hr c).2⟩) (Cert.ReferenceIdeal.Value.run (F := Ideal) m' g')⟩
  obtain ⟨h0, h1, h2, h3, h4, h5, h6, h7⟩ := h c
  exact value_eq m m' c h0 h1 h2 h3 h4 h5 h6 h7

/-- The whole certificate: three frames, the idealization, and the value. -/
theorem claim : Cert.Claim := ⟨Cert.Kernel.Gen.facts, Cert.KernelIdeal.Gen.facts, Cert.ReferenceIdeal.Gen.facts,
  frame_kernel, frame_kernelIdeal, frame_reference, by trivial, value⟩

end Cert.Proof

end
